-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S4096x512 : Shape := ⟨2, ![4096, 512]⟩
abbrev S3x4096x512 : Shape := ⟨3, ![3, 4096, 512]⟩
abbrev S16x256x512 : Shape := ⟨3, ![16, 256, 512]⟩
abbrev S16x1x128 : Shape := ⟨3, ![16, 1, 128]⟩
abbrev S3x4 : Shape := ⟨2, ![3, 4]⟩
abbrev S16 : Shape := ⟨1, ![16]⟩
abbrev S_ : Shape := ⟨0, ![]⟩
abbrev S1x1 : Shape := ⟨2, ![1, 1]⟩
abbrev S1x1024x512 : Shape := ⟨3, ![1, 1024, 512]⟩
abbrev S1024x512 : Shape := ⟨2, ![1024, 512]⟩
abbrev S256x1024 : Shape := ⟨2, ![256, 1024]⟩
abbrev S256x512 : Shape := ⟨2, ![256, 512]⟩
abbrev S1x256x512 : Shape := ⟨3, ![1, 256, 512]⟩
abbrev S1 : Shape := ⟨1, ![1]⟩
abbrev S1x1x1 : Shape := ⟨3, ![1, 1, 1]⟩
abbrev S1x128 : Shape := ⟨2, ![1, 128]⟩
abbrev S1x1x128 : Shape := ⟨3, ![1, 1, 128]⟩
abbrev S1x16x1x128 : Shape := ⟨4, ![1, 16, 1, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S4096x8192, .f32⟩
  | .hbm, ⟨2, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S3x4096x512, .f32⟩
  | .local _ .vmem, ⟨3, _⟩ => ⟨S16x256x512, .fp8e4m3⟩
  | .local _ .vmem, ⟨4, _⟩ => ⟨S16x256x512, .fp8e4m3⟩
  | .local _ .vmem, ⟨5, _⟩ => ⟨S16x1x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_136 : BitVec 32) : Fin 2 → Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c1_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c512_i32 : BitVec 32 := 512#32
  let v210 : BitVec 32 := Scalar.muli v209 c512_i32
  ![0, v210.toNat]
def k0_off2 (d0 : Dev nD) (c1_i32_136 : BitVec 32) : Fin 2 → Nat :=
  let c1024_i32_154 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c1_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c512_i32_149 : BitVec 32 := 512#32
  let v216 : BitVec 32 := Scalar.muli v209 c512_i32_149
  ![1024, v216.toNat]
def k0_off3 (d0 : Dev nD) (c1_i32_136 : BitVec 32) : Fin 2 → Nat :=
  let c2048_i32_160 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c1_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c512_i32_155 : BitVec 32 := 512#32
  let v222 : BitVec 32 := Scalar.muli v209 c512_i32_155
  ![2048, v222.toNat]
def k0_off4 (d0 : Dev nD) (c1_i32_136 : BitVec 32) : Fin 2 → Nat :=
  let c3072_i32_166 : BitVec 32 := 3072#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c1_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c512_i32_161 : BitVec 32 := 512#32
  let v228 : BitVec 32 := Scalar.muli v209 c512_i32_161
  ![3072, v228.toNat]
def k0_off5 (d0 : Dev nD) (c1_i32_287 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v354 : BitVec 32 := Scalar.addi v2 c1_i32_287
  let c16_i32_288 : BitVec 32 := 16#32
  let c0_i32_289 : BitVec 32 := 0#32
  let v355 : BitVec 1 := Scalar.cmpi .eq c16_i32_288 c0_i32_289
  let c1_i32_290 : BitVec 32 := 1#32
  let v356 : BitVec 32 := Scalar.select v355 c1_i32_290 c16_i32_288
  let v357 : BitVec 32 := Scalar.remsi v354 v356
  let c0_i32_292 : BitVec 32 := 0#32
  let v359 : BitVec 1 := Scalar.cmpi .slt v357 c0_i32_292
  let c0_i32_293 : BitVec 32 := 0#32
  let v360 : BitVec 1 := Scalar.cmpi .slt v356 c0_i32_293
  let v361 : BitVec 1 := Scalar.xori v359 v360
  let c0_i32_291 : BitVec 32 := 0#32
  let v358 : BitVec 1 := Scalar.cmpi .ne v357 c0_i32_291
  let v362 : BitVec 1 := Scalar.andi v361 v358
  let v363 : BitVec 32 := Scalar.addi v357 v356
  let v364 : BitVec 32 := Scalar.select v362 v363 v357
  let c256_i32 : BitVec 32 := 256#32
  let v365 : BitVec 32 := Scalar.muli v364 c256_i32
  let v366 : Index := Scalar.indexCast v365
  let c0_294 : Index := 0#32
  ![v366.toNat, 0]
def k0_dev16 (d0 : Dev nD) : Nat :=
  let c0_i32_1708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1696 : BitVec 32 := 1#32
  let v1787 : BitVec 32 := Scalar.addi v2 c1_i32_1696
  let c16_i32_1697 : BitVec 32 := 16#32
  let c0_i32_1698 : BitVec 32 := 0#32
  let v1788 : BitVec 1 := Scalar.cmpi .eq c16_i32_1697 c0_i32_1698
  let c1_i32_1699 : BitVec 32 := 1#32
  let v1789 : BitVec 32 := Scalar.select v1788 c1_i32_1699 c16_i32_1697
  let v1790 : BitVec 32 := Scalar.remsi v1787 v1789
  let c0_i32_1701 : BitVec 32 := 0#32
  let v1792 : BitVec 1 := Scalar.cmpi .slt v1790 c0_i32_1701
  let c0_i32_1702 : BitVec 32 := 0#32
  let v1793 : BitVec 1 := Scalar.cmpi .slt v1789 c0_i32_1702
  let v1794 : BitVec 1 := Scalar.xori v1792 v1793
  let c0_i32_1700 : BitVec 32 := 0#32
  let v1791 : BitVec 1 := Scalar.cmpi .ne v1790 c0_i32_1700
  let v1795 : BitVec 1 := Scalar.andi v1794 v1791
  let v1796 : BitVec 32 := Scalar.addi v1790 v1789
  let v1797 : BitVec 32 := Scalar.select v1795 v1796 v1790
  let c1_i32_1707 : BitVec 32 := 1#32
  let v1798 : BitVec 32 := Scalar.muli v1797 c1_i32_1707
  let v1799 : BitVec 32 := Scalar.addi c0_i32_1708 v1798
  v1799.toNat
def k0_dev17 (d0 : Dev nD) : Nat :=
  let c0_i32_1725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1713 : BitVec 32 := 2#32
  let v1808 : BitVec 32 := Scalar.addi v2 c2_i32_1713
  let c16_i32_1714 : BitVec 32 := 16#32
  let c0_i32_1715 : BitVec 32 := 0#32
  let v1809 : BitVec 1 := Scalar.cmpi .eq c16_i32_1714 c0_i32_1715
  let c1_i32_1716 : BitVec 32 := 1#32
  let v1810 : BitVec 32 := Scalar.select v1809 c1_i32_1716 c16_i32_1714
  let v1811 : BitVec 32 := Scalar.remsi v1808 v1810
  let c0_i32_1718 : BitVec 32 := 0#32
  let v1813 : BitVec 1 := Scalar.cmpi .slt v1811 c0_i32_1718
  let c0_i32_1719 : BitVec 32 := 0#32
  let v1814 : BitVec 1 := Scalar.cmpi .slt v1810 c0_i32_1719
  let v1815 : BitVec 1 := Scalar.xori v1813 v1814
  let c0_i32_1717 : BitVec 32 := 0#32
  let v1812 : BitVec 1 := Scalar.cmpi .ne v1811 c0_i32_1717
  let v1816 : BitVec 1 := Scalar.andi v1815 v1812
  let v1817 : BitVec 32 := Scalar.addi v1811 v1810
  let v1818 : BitVec 32 := Scalar.select v1816 v1817 v1811
  let c1_i32_1724 : BitVec 32 := 1#32
  let v1819 : BitVec 32 := Scalar.muli v1818 c1_i32_1724
  let v1820 : BitVec 32 := Scalar.addi c0_i32_1725 v1819
  v1820.toNat
def k0_dev18 (d0 : Dev nD) : Nat :=
  let c0_i32_1742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1730 : BitVec 32 := 3#32
  let v1829 : BitVec 32 := Scalar.addi v2 c3_i32_1730
  let c16_i32_1731 : BitVec 32 := 16#32
  let c0_i32_1732 : BitVec 32 := 0#32
  let v1830 : BitVec 1 := Scalar.cmpi .eq c16_i32_1731 c0_i32_1732
  let c1_i32_1733 : BitVec 32 := 1#32
  let v1831 : BitVec 32 := Scalar.select v1830 c1_i32_1733 c16_i32_1731
  let v1832 : BitVec 32 := Scalar.remsi v1829 v1831
  let c0_i32_1735 : BitVec 32 := 0#32
  let v1834 : BitVec 1 := Scalar.cmpi .slt v1832 c0_i32_1735
  let c0_i32_1736 : BitVec 32 := 0#32
  let v1835 : BitVec 1 := Scalar.cmpi .slt v1831 c0_i32_1736
  let v1836 : BitVec 1 := Scalar.xori v1834 v1835
  let c0_i32_1734 : BitVec 32 := 0#32
  let v1833 : BitVec 1 := Scalar.cmpi .ne v1832 c0_i32_1734
  let v1837 : BitVec 1 := Scalar.andi v1836 v1833
  let v1838 : BitVec 32 := Scalar.addi v1832 v1831
  let v1839 : BitVec 32 := Scalar.select v1837 v1838 v1832
  let c1_i32_1741 : BitVec 32 := 1#32
  let v1840 : BitVec 32 := Scalar.muli v1839 c1_i32_1741
  let v1841 : BitVec 32 := Scalar.addi c0_i32_1742 v1840
  v1841.toNat
def k0_dev19 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1747 : BitVec 32 := 4#32
  let v1850 : BitVec 32 := Scalar.addi v2 c4_i32_1747
  let c16_i32_1748 : BitVec 32 := 16#32
  let c0_i32_1749 : BitVec 32 := 0#32
  let v1851 : BitVec 1 := Scalar.cmpi .eq c16_i32_1748 c0_i32_1749
  let c1_i32_1750 : BitVec 32 := 1#32
  let v1852 : BitVec 32 := Scalar.select v1851 c1_i32_1750 c16_i32_1748
  let v1853 : BitVec 32 := Scalar.remsi v1850 v1852
  let c0_i32_1752 : BitVec 32 := 0#32
  let v1855 : BitVec 1 := Scalar.cmpi .slt v1853 c0_i32_1752
  let c0_i32_1753 : BitVec 32 := 0#32
  let v1856 : BitVec 1 := Scalar.cmpi .slt v1852 c0_i32_1753
  let v1857 : BitVec 1 := Scalar.xori v1855 v1856
  let c0_i32_1751 : BitVec 32 := 0#32
  let v1854 : BitVec 1 := Scalar.cmpi .ne v1853 c0_i32_1751
  let v1858 : BitVec 1 := Scalar.andi v1857 v1854
  let v1859 : BitVec 32 := Scalar.addi v1853 v1852
  let v1860 : BitVec 32 := Scalar.select v1858 v1859 v1853
  let c1_i32_1758 : BitVec 32 := 1#32
  let v1861 : BitVec 32 := Scalar.muli v1860 c1_i32_1758
  let v1862 : BitVec 32 := Scalar.addi c0_i32_1759 v1861
  v1862.toNat
def k0_dev20 (d0 : Dev nD) : Nat :=
  let c0_i32_1776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1764 : BitVec 32 := 5#32
  let v1871 : BitVec 32 := Scalar.addi v2 c5_i32_1764
  let c16_i32_1765 : BitVec 32 := 16#32
  let c0_i32_1766 : BitVec 32 := 0#32
  let v1872 : BitVec 1 := Scalar.cmpi .eq c16_i32_1765 c0_i32_1766
  let c1_i32_1767 : BitVec 32 := 1#32
  let v1873 : BitVec 32 := Scalar.select v1872 c1_i32_1767 c16_i32_1765
  let v1874 : BitVec 32 := Scalar.remsi v1871 v1873
  let c0_i32_1769 : BitVec 32 := 0#32
  let v1876 : BitVec 1 := Scalar.cmpi .slt v1874 c0_i32_1769
  let c0_i32_1770 : BitVec 32 := 0#32
  let v1877 : BitVec 1 := Scalar.cmpi .slt v1873 c0_i32_1770
  let v1878 : BitVec 1 := Scalar.xori v1876 v1877
  let c0_i32_1768 : BitVec 32 := 0#32
  let v1875 : BitVec 1 := Scalar.cmpi .ne v1874 c0_i32_1768
  let v1879 : BitVec 1 := Scalar.andi v1878 v1875
  let v1880 : BitVec 32 := Scalar.addi v1874 v1873
  let v1881 : BitVec 32 := Scalar.select v1879 v1880 v1874
  let c1_i32_1775 : BitVec 32 := 1#32
  let v1882 : BitVec 32 := Scalar.muli v1881 c1_i32_1775
  let v1883 : BitVec 32 := Scalar.addi c0_i32_1776 v1882
  v1883.toNat
def k0_dev21 (d0 : Dev nD) : Nat :=
  let c0_i32_1793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1781 : BitVec 32 := 6#32
  let v1892 : BitVec 32 := Scalar.addi v2 c6_i32_1781
  let c16_i32_1782 : BitVec 32 := 16#32
  let c0_i32_1783 : BitVec 32 := 0#32
  let v1893 : BitVec 1 := Scalar.cmpi .eq c16_i32_1782 c0_i32_1783
  let c1_i32_1784 : BitVec 32 := 1#32
  let v1894 : BitVec 32 := Scalar.select v1893 c1_i32_1784 c16_i32_1782
  let v1895 : BitVec 32 := Scalar.remsi v1892 v1894
  let c0_i32_1786 : BitVec 32 := 0#32
  let v1897 : BitVec 1 := Scalar.cmpi .slt v1895 c0_i32_1786
  let c0_i32_1787 : BitVec 32 := 0#32
  let v1898 : BitVec 1 := Scalar.cmpi .slt v1894 c0_i32_1787
  let v1899 : BitVec 1 := Scalar.xori v1897 v1898
  let c0_i32_1785 : BitVec 32 := 0#32
  let v1896 : BitVec 1 := Scalar.cmpi .ne v1895 c0_i32_1785
  let v1900 : BitVec 1 := Scalar.andi v1899 v1896
  let v1901 : BitVec 32 := Scalar.addi v1895 v1894
  let v1902 : BitVec 32 := Scalar.select v1900 v1901 v1895
  let c1_i32_1792 : BitVec 32 := 1#32
  let v1903 : BitVec 32 := Scalar.muli v1902 c1_i32_1792
  let v1904 : BitVec 32 := Scalar.addi c0_i32_1793 v1903
  v1904.toNat
def k0_dev22 (d0 : Dev nD) : Nat :=
  let c0_i32_1810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1798 : BitVec 32 := 7#32
  let v1913 : BitVec 32 := Scalar.addi v2 c7_i32_1798
  let c16_i32_1799 : BitVec 32 := 16#32
  let c0_i32_1800 : BitVec 32 := 0#32
  let v1914 : BitVec 1 := Scalar.cmpi .eq c16_i32_1799 c0_i32_1800
  let c1_i32_1801 : BitVec 32 := 1#32
  let v1915 : BitVec 32 := Scalar.select v1914 c1_i32_1801 c16_i32_1799
  let v1916 : BitVec 32 := Scalar.remsi v1913 v1915
  let c0_i32_1803 : BitVec 32 := 0#32
  let v1918 : BitVec 1 := Scalar.cmpi .slt v1916 c0_i32_1803
  let c0_i32_1804 : BitVec 32 := 0#32
  let v1919 : BitVec 1 := Scalar.cmpi .slt v1915 c0_i32_1804
  let v1920 : BitVec 1 := Scalar.xori v1918 v1919
  let c0_i32_1802 : BitVec 32 := 0#32
  let v1917 : BitVec 1 := Scalar.cmpi .ne v1916 c0_i32_1802
  let v1921 : BitVec 1 := Scalar.andi v1920 v1917
  let v1922 : BitVec 32 := Scalar.addi v1916 v1915
  let v1923 : BitVec 32 := Scalar.select v1921 v1922 v1916
  let c1_i32_1809 : BitVec 32 := 1#32
  let v1924 : BitVec 32 := Scalar.muli v1923 c1_i32_1809
  let v1925 : BitVec 32 := Scalar.addi c0_i32_1810 v1924
  v1925.toNat
def k0_dev23 (d0 : Dev nD) : Nat :=
  let c0_i32_1827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1815 : BitVec 32 := 8#32
  let v1934 : BitVec 32 := Scalar.addi v2 c8_i32_1815
  let c16_i32_1816 : BitVec 32 := 16#32
  let c0_i32_1817 : BitVec 32 := 0#32
  let v1935 : BitVec 1 := Scalar.cmpi .eq c16_i32_1816 c0_i32_1817
  let c1_i32_1818 : BitVec 32 := 1#32
  let v1936 : BitVec 32 := Scalar.select v1935 c1_i32_1818 c16_i32_1816
  let v1937 : BitVec 32 := Scalar.remsi v1934 v1936
  let c0_i32_1820 : BitVec 32 := 0#32
  let v1939 : BitVec 1 := Scalar.cmpi .slt v1937 c0_i32_1820
  let c0_i32_1821 : BitVec 32 := 0#32
  let v1940 : BitVec 1 := Scalar.cmpi .slt v1936 c0_i32_1821
  let v1941 : BitVec 1 := Scalar.xori v1939 v1940
  let c0_i32_1819 : BitVec 32 := 0#32
  let v1938 : BitVec 1 := Scalar.cmpi .ne v1937 c0_i32_1819
  let v1942 : BitVec 1 := Scalar.andi v1941 v1938
  let v1943 : BitVec 32 := Scalar.addi v1937 v1936
  let v1944 : BitVec 32 := Scalar.select v1942 v1943 v1937
  let c1_i32_1826 : BitVec 32 := 1#32
  let v1945 : BitVec 32 := Scalar.muli v1944 c1_i32_1826
  let v1946 : BitVec 32 := Scalar.addi c0_i32_1827 v1945
  v1946.toNat
def k0_dev24 (d0 : Dev nD) : Nat :=
  let c0_i32_1844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1832 : BitVec 32 := 9#32
  let v1955 : BitVec 32 := Scalar.addi v2 c9_i32_1832
  let c16_i32_1833 : BitVec 32 := 16#32
  let c0_i32_1834 : BitVec 32 := 0#32
  let v1956 : BitVec 1 := Scalar.cmpi .eq c16_i32_1833 c0_i32_1834
  let c1_i32_1835 : BitVec 32 := 1#32
  let v1957 : BitVec 32 := Scalar.select v1956 c1_i32_1835 c16_i32_1833
  let v1958 : BitVec 32 := Scalar.remsi v1955 v1957
  let c0_i32_1837 : BitVec 32 := 0#32
  let v1960 : BitVec 1 := Scalar.cmpi .slt v1958 c0_i32_1837
  let c0_i32_1838 : BitVec 32 := 0#32
  let v1961 : BitVec 1 := Scalar.cmpi .slt v1957 c0_i32_1838
  let v1962 : BitVec 1 := Scalar.xori v1960 v1961
  let c0_i32_1836 : BitVec 32 := 0#32
  let v1959 : BitVec 1 := Scalar.cmpi .ne v1958 c0_i32_1836
  let v1963 : BitVec 1 := Scalar.andi v1962 v1959
  let v1964 : BitVec 32 := Scalar.addi v1958 v1957
  let v1965 : BitVec 32 := Scalar.select v1963 v1964 v1958
  let c1_i32_1843 : BitVec 32 := 1#32
  let v1966 : BitVec 32 := Scalar.muli v1965 c1_i32_1843
  let v1967 : BitVec 32 := Scalar.addi c0_i32_1844 v1966
  v1967.toNat
def k0_dev25 (d0 : Dev nD) : Nat :=
  let c0_i32_1861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1849 : BitVec 32 := 10#32
  let v1976 : BitVec 32 := Scalar.addi v2 c10_i32_1849
  let c16_i32_1850 : BitVec 32 := 16#32
  let c0_i32_1851 : BitVec 32 := 0#32
  let v1977 : BitVec 1 := Scalar.cmpi .eq c16_i32_1850 c0_i32_1851
  let c1_i32_1852 : BitVec 32 := 1#32
  let v1978 : BitVec 32 := Scalar.select v1977 c1_i32_1852 c16_i32_1850
  let v1979 : BitVec 32 := Scalar.remsi v1976 v1978
  let c0_i32_1854 : BitVec 32 := 0#32
  let v1981 : BitVec 1 := Scalar.cmpi .slt v1979 c0_i32_1854
  let c0_i32_1855 : BitVec 32 := 0#32
  let v1982 : BitVec 1 := Scalar.cmpi .slt v1978 c0_i32_1855
  let v1983 : BitVec 1 := Scalar.xori v1981 v1982
  let c0_i32_1853 : BitVec 32 := 0#32
  let v1980 : BitVec 1 := Scalar.cmpi .ne v1979 c0_i32_1853
  let v1984 : BitVec 1 := Scalar.andi v1983 v1980
  let v1985 : BitVec 32 := Scalar.addi v1979 v1978
  let v1986 : BitVec 32 := Scalar.select v1984 v1985 v1979
  let c1_i32_1860 : BitVec 32 := 1#32
  let v1987 : BitVec 32 := Scalar.muli v1986 c1_i32_1860
  let v1988 : BitVec 32 := Scalar.addi c0_i32_1861 v1987
  v1988.toNat
def k0_dev26 (d0 : Dev nD) : Nat :=
  let c0_i32_1878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1866 : BitVec 32 := 11#32
  let v1997 : BitVec 32 := Scalar.addi v2 c11_i32_1866
  let c16_i32_1867 : BitVec 32 := 16#32
  let c0_i32_1868 : BitVec 32 := 0#32
  let v1998 : BitVec 1 := Scalar.cmpi .eq c16_i32_1867 c0_i32_1868
  let c1_i32_1869 : BitVec 32 := 1#32
  let v1999 : BitVec 32 := Scalar.select v1998 c1_i32_1869 c16_i32_1867
  let v2000 : BitVec 32 := Scalar.remsi v1997 v1999
  let c0_i32_1871 : BitVec 32 := 0#32
  let v2002 : BitVec 1 := Scalar.cmpi .slt v2000 c0_i32_1871
  let c0_i32_1872 : BitVec 32 := 0#32
  let v2003 : BitVec 1 := Scalar.cmpi .slt v1999 c0_i32_1872
  let v2004 : BitVec 1 := Scalar.xori v2002 v2003
  let c0_i32_1870 : BitVec 32 := 0#32
  let v2001 : BitVec 1 := Scalar.cmpi .ne v2000 c0_i32_1870
  let v2005 : BitVec 1 := Scalar.andi v2004 v2001
  let v2006 : BitVec 32 := Scalar.addi v2000 v1999
  let v2007 : BitVec 32 := Scalar.select v2005 v2006 v2000
  let c1_i32_1877 : BitVec 32 := 1#32
  let v2008 : BitVec 32 := Scalar.muli v2007 c1_i32_1877
  let v2009 : BitVec 32 := Scalar.addi c0_i32_1878 v2008
  v2009.toNat
def k0_dev27 (d0 : Dev nD) : Nat :=
  let c0_i32_1895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1883 : BitVec 32 := 12#32
  let v2018 : BitVec 32 := Scalar.addi v2 c12_i32_1883
  let c16_i32_1884 : BitVec 32 := 16#32
  let c0_i32_1885 : BitVec 32 := 0#32
  let v2019 : BitVec 1 := Scalar.cmpi .eq c16_i32_1884 c0_i32_1885
  let c1_i32_1886 : BitVec 32 := 1#32
  let v2020 : BitVec 32 := Scalar.select v2019 c1_i32_1886 c16_i32_1884
  let v2021 : BitVec 32 := Scalar.remsi v2018 v2020
  let c0_i32_1888 : BitVec 32 := 0#32
  let v2023 : BitVec 1 := Scalar.cmpi .slt v2021 c0_i32_1888
  let c0_i32_1889 : BitVec 32 := 0#32
  let v2024 : BitVec 1 := Scalar.cmpi .slt v2020 c0_i32_1889
  let v2025 : BitVec 1 := Scalar.xori v2023 v2024
  let c0_i32_1887 : BitVec 32 := 0#32
  let v2022 : BitVec 1 := Scalar.cmpi .ne v2021 c0_i32_1887
  let v2026 : BitVec 1 := Scalar.andi v2025 v2022
  let v2027 : BitVec 32 := Scalar.addi v2021 v2020
  let v2028 : BitVec 32 := Scalar.select v2026 v2027 v2021
  let c1_i32_1894 : BitVec 32 := 1#32
  let v2029 : BitVec 32 := Scalar.muli v2028 c1_i32_1894
  let v2030 : BitVec 32 := Scalar.addi c0_i32_1895 v2029
  v2030.toNat
def k0_dev28 (d0 : Dev nD) : Nat :=
  let c0_i32_1912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1900 : BitVec 32 := 13#32
  let v2039 : BitVec 32 := Scalar.addi v2 c13_i32_1900
  let c16_i32_1901 : BitVec 32 := 16#32
  let c0_i32_1902 : BitVec 32 := 0#32
  let v2040 : BitVec 1 := Scalar.cmpi .eq c16_i32_1901 c0_i32_1902
  let c1_i32_1903 : BitVec 32 := 1#32
  let v2041 : BitVec 32 := Scalar.select v2040 c1_i32_1903 c16_i32_1901
  let v2042 : BitVec 32 := Scalar.remsi v2039 v2041
  let c0_i32_1905 : BitVec 32 := 0#32
  let v2044 : BitVec 1 := Scalar.cmpi .slt v2042 c0_i32_1905
  let c0_i32_1906 : BitVec 32 := 0#32
  let v2045 : BitVec 1 := Scalar.cmpi .slt v2041 c0_i32_1906
  let v2046 : BitVec 1 := Scalar.xori v2044 v2045
  let c0_i32_1904 : BitVec 32 := 0#32
  let v2043 : BitVec 1 := Scalar.cmpi .ne v2042 c0_i32_1904
  let v2047 : BitVec 1 := Scalar.andi v2046 v2043
  let v2048 : BitVec 32 := Scalar.addi v2042 v2041
  let v2049 : BitVec 32 := Scalar.select v2047 v2048 v2042
  let c1_i32_1911 : BitVec 32 := 1#32
  let v2050 : BitVec 32 := Scalar.muli v2049 c1_i32_1911
  let v2051 : BitVec 32 := Scalar.addi c0_i32_1912 v2050
  v2051.toNat
def k0_dev29 (d0 : Dev nD) : Nat :=
  let c0_i32_1929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1917 : BitVec 32 := 14#32
  let v2060 : BitVec 32 := Scalar.addi v2 c14_i32_1917
  let c16_i32_1918 : BitVec 32 := 16#32
  let c0_i32_1919 : BitVec 32 := 0#32
  let v2061 : BitVec 1 := Scalar.cmpi .eq c16_i32_1918 c0_i32_1919
  let c1_i32_1920 : BitVec 32 := 1#32
  let v2062 : BitVec 32 := Scalar.select v2061 c1_i32_1920 c16_i32_1918
  let v2063 : BitVec 32 := Scalar.remsi v2060 v2062
  let c0_i32_1922 : BitVec 32 := 0#32
  let v2065 : BitVec 1 := Scalar.cmpi .slt v2063 c0_i32_1922
  let c0_i32_1923 : BitVec 32 := 0#32
  let v2066 : BitVec 1 := Scalar.cmpi .slt v2062 c0_i32_1923
  let v2067 : BitVec 1 := Scalar.xori v2065 v2066
  let c0_i32_1921 : BitVec 32 := 0#32
  let v2064 : BitVec 1 := Scalar.cmpi .ne v2063 c0_i32_1921
  let v2068 : BitVec 1 := Scalar.andi v2067 v2064
  let v2069 : BitVec 32 := Scalar.addi v2063 v2062
  let v2070 : BitVec 32 := Scalar.select v2068 v2069 v2063
  let c1_i32_1928 : BitVec 32 := 1#32
  let v2071 : BitVec 32 := Scalar.muli v2070 c1_i32_1928
  let v2072 : BitVec 32 := Scalar.addi c0_i32_1929 v2071
  v2072.toNat
def k0_dev30 (d0 : Dev nD) : Nat :=
  let c0_i32_1946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1934 : BitVec 32 := 15#32
  let v2081 : BitVec 32 := Scalar.addi v2 c15_i32_1934
  let c16_i32_1935 : BitVec 32 := 16#32
  let c0_i32_1936 : BitVec 32 := 0#32
  let v2082 : BitVec 1 := Scalar.cmpi .eq c16_i32_1935 c0_i32_1936
  let c1_i32_1937 : BitVec 32 := 1#32
  let v2083 : BitVec 32 := Scalar.select v2082 c1_i32_1937 c16_i32_1935
  let v2084 : BitVec 32 := Scalar.remsi v2081 v2083
  let c0_i32_1939 : BitVec 32 := 0#32
  let v2086 : BitVec 1 := Scalar.cmpi .slt v2084 c0_i32_1939
  let c0_i32_1940 : BitVec 32 := 0#32
  let v2087 : BitVec 1 := Scalar.cmpi .slt v2083 c0_i32_1940
  let v2088 : BitVec 1 := Scalar.xori v2086 v2087
  let c0_i32_1938 : BitVec 32 := 0#32
  let v2085 : BitVec 1 := Scalar.cmpi .ne v2084 c0_i32_1938
  let v2089 : BitVec 1 := Scalar.andi v2088 v2085
  let v2090 : BitVec 32 := Scalar.addi v2084 v2083
  let v2091 : BitVec 32 := Scalar.select v2089 v2090 v2084
  let c1_i32_1945 : BitVec 32 := 1#32
  let v2092 : BitVec 32 := Scalar.muli v2091 c1_i32_1945
  let v2093 : BitVec 32 := Scalar.addi c0_i32_1946 v2092
  v2093.toNat
def k0_dev31 (d0 : Dev nD) : Nat :=
  let c0_i32_2124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2107 : BitVec 32 := 1#32
  let v2229 : BitVec 32 := Scalar.addi v2 c1_i32_2107
  let c16_i32_2108 : BitVec 32 := 16#32
  let c0_i32_2109 : BitVec 32 := 0#32
  let v2230 : BitVec 1 := Scalar.cmpi .eq c16_i32_2108 c0_i32_2109
  let c1_i32_2110 : BitVec 32 := 1#32
  let v2231 : BitVec 32 := Scalar.select v2230 c1_i32_2110 c16_i32_2108
  let v2232 : BitVec 32 := Scalar.remsi v2229 v2231
  let c0_i32_2112 : BitVec 32 := 0#32
  let v2234 : BitVec 1 := Scalar.cmpi .slt v2232 c0_i32_2112
  let c0_i32_2113 : BitVec 32 := 0#32
  let v2235 : BitVec 1 := Scalar.cmpi .slt v2231 c0_i32_2113
  let v2236 : BitVec 1 := Scalar.xori v2234 v2235
  let c0_i32_2111 : BitVec 32 := 0#32
  let v2233 : BitVec 1 := Scalar.cmpi .ne v2232 c0_i32_2111
  let v2237 : BitVec 1 := Scalar.andi v2236 v2233
  let v2238 : BitVec 32 := Scalar.addi v2232 v2231
  let v2239 : BitVec 32 := Scalar.select v2237 v2238 v2232
  let c1_i32_2123 : BitVec 32 := 1#32
  let v2250 : BitVec 32 := Scalar.muli v2239 c1_i32_2123
  let v2251 : BitVec 32 := Scalar.addi c0_i32_2124 v2250
  v2251.toNat
def k0_dev32 (d0 : Dev nD) : Nat :=
  let c0_i32_2146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2129 : BitVec 32 := 2#32
  let v2260 : BitVec 32 := Scalar.addi v2 c2_i32_2129
  let c16_i32_2130 : BitVec 32 := 16#32
  let c0_i32_2131 : BitVec 32 := 0#32
  let v2261 : BitVec 1 := Scalar.cmpi .eq c16_i32_2130 c0_i32_2131
  let c1_i32_2132 : BitVec 32 := 1#32
  let v2262 : BitVec 32 := Scalar.select v2261 c1_i32_2132 c16_i32_2130
  let v2263 : BitVec 32 := Scalar.remsi v2260 v2262
  let c0_i32_2134 : BitVec 32 := 0#32
  let v2265 : BitVec 1 := Scalar.cmpi .slt v2263 c0_i32_2134
  let c0_i32_2135 : BitVec 32 := 0#32
  let v2266 : BitVec 1 := Scalar.cmpi .slt v2262 c0_i32_2135
  let v2267 : BitVec 1 := Scalar.xori v2265 v2266
  let c0_i32_2133 : BitVec 32 := 0#32
  let v2264 : BitVec 1 := Scalar.cmpi .ne v2263 c0_i32_2133
  let v2268 : BitVec 1 := Scalar.andi v2267 v2264
  let v2269 : BitVec 32 := Scalar.addi v2263 v2262
  let v2270 : BitVec 32 := Scalar.select v2268 v2269 v2263
  let c1_i32_2145 : BitVec 32 := 1#32
  let v2281 : BitVec 32 := Scalar.muli v2270 c1_i32_2145
  let v2282 : BitVec 32 := Scalar.addi c0_i32_2146 v2281
  v2282.toNat
def k0_dev33 (d0 : Dev nD) : Nat :=
  let c0_i32_2167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2151 : BitVec 32 := 3#32
  let v2291 : BitVec 32 := Scalar.addi v2 c3_i32_2151
  let c16_i32_2152 : BitVec 32 := 16#32
  let c0_i32_2153 : BitVec 32 := 0#32
  let v2292 : BitVec 1 := Scalar.cmpi .eq c16_i32_2152 c0_i32_2153
  let c1_i32_2154 : BitVec 32 := 1#32
  let v2293 : BitVec 32 := Scalar.select v2292 c1_i32_2154 c16_i32_2152
  let v2294 : BitVec 32 := Scalar.remsi v2291 v2293
  let c0_i32_2156 : BitVec 32 := 0#32
  let v2296 : BitVec 1 := Scalar.cmpi .slt v2294 c0_i32_2156
  let c0_i32_2157 : BitVec 32 := 0#32
  let v2297 : BitVec 1 := Scalar.cmpi .slt v2293 c0_i32_2157
  let v2298 : BitVec 1 := Scalar.xori v2296 v2297
  let c0_i32_2155 : BitVec 32 := 0#32
  let v2295 : BitVec 1 := Scalar.cmpi .ne v2294 c0_i32_2155
  let v2299 : BitVec 1 := Scalar.andi v2298 v2295
  let v2300 : BitVec 32 := Scalar.addi v2294 v2293
  let v2301 : BitVec 32 := Scalar.select v2299 v2300 v2294
  let c1_i32_2166 : BitVec 32 := 1#32
  let v2312 : BitVec 32 := Scalar.muli v2301 c1_i32_2166
  let v2313 : BitVec 32 := Scalar.addi c0_i32_2167 v2312
  v2313.toNat
def k0_dev34 (d0 : Dev nD) : Nat :=
  let c0_i32_2188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2172 : BitVec 32 := 4#32
  let v2322 : BitVec 32 := Scalar.addi v2 c4_i32_2172
  let c16_i32_2173 : BitVec 32 := 16#32
  let c0_i32_2174 : BitVec 32 := 0#32
  let v2323 : BitVec 1 := Scalar.cmpi .eq c16_i32_2173 c0_i32_2174
  let c1_i32_2175 : BitVec 32 := 1#32
  let v2324 : BitVec 32 := Scalar.select v2323 c1_i32_2175 c16_i32_2173
  let v2325 : BitVec 32 := Scalar.remsi v2322 v2324
  let c0_i32_2177 : BitVec 32 := 0#32
  let v2327 : BitVec 1 := Scalar.cmpi .slt v2325 c0_i32_2177
  let c0_i32_2178 : BitVec 32 := 0#32
  let v2328 : BitVec 1 := Scalar.cmpi .slt v2324 c0_i32_2178
  let v2329 : BitVec 1 := Scalar.xori v2327 v2328
  let c0_i32_2176 : BitVec 32 := 0#32
  let v2326 : BitVec 1 := Scalar.cmpi .ne v2325 c0_i32_2176
  let v2330 : BitVec 1 := Scalar.andi v2329 v2326
  let v2331 : BitVec 32 := Scalar.addi v2325 v2324
  let v2332 : BitVec 32 := Scalar.select v2330 v2331 v2325
  let c1_i32_2187 : BitVec 32 := 1#32
  let v2343 : BitVec 32 := Scalar.muli v2332 c1_i32_2187
  let v2344 : BitVec 32 := Scalar.addi c0_i32_2188 v2343
  v2344.toNat
def k0_dev35 (d0 : Dev nD) : Nat :=
  let c0_i32_2209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2193 : BitVec 32 := 5#32
  let v2353 : BitVec 32 := Scalar.addi v2 c5_i32_2193
  let c16_i32_2194 : BitVec 32 := 16#32
  let c0_i32_2195 : BitVec 32 := 0#32
  let v2354 : BitVec 1 := Scalar.cmpi .eq c16_i32_2194 c0_i32_2195
  let c1_i32_2196 : BitVec 32 := 1#32
  let v2355 : BitVec 32 := Scalar.select v2354 c1_i32_2196 c16_i32_2194
  let v2356 : BitVec 32 := Scalar.remsi v2353 v2355
  let c0_i32_2198 : BitVec 32 := 0#32
  let v2358 : BitVec 1 := Scalar.cmpi .slt v2356 c0_i32_2198
  let c0_i32_2199 : BitVec 32 := 0#32
  let v2359 : BitVec 1 := Scalar.cmpi .slt v2355 c0_i32_2199
  let v2360 : BitVec 1 := Scalar.xori v2358 v2359
  let c0_i32_2197 : BitVec 32 := 0#32
  let v2357 : BitVec 1 := Scalar.cmpi .ne v2356 c0_i32_2197
  let v2361 : BitVec 1 := Scalar.andi v2360 v2357
  let v2362 : BitVec 32 := Scalar.addi v2356 v2355
  let v2363 : BitVec 32 := Scalar.select v2361 v2362 v2356
  let c1_i32_2208 : BitVec 32 := 1#32
  let v2374 : BitVec 32 := Scalar.muli v2363 c1_i32_2208
  let v2375 : BitVec 32 := Scalar.addi c0_i32_2209 v2374
  v2375.toNat
def k0_dev36 (d0 : Dev nD) : Nat :=
  let c0_i32_2230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2214 : BitVec 32 := 6#32
  let v2384 : BitVec 32 := Scalar.addi v2 c6_i32_2214
  let c16_i32_2215 : BitVec 32 := 16#32
  let c0_i32_2216 : BitVec 32 := 0#32
  let v2385 : BitVec 1 := Scalar.cmpi .eq c16_i32_2215 c0_i32_2216
  let c1_i32_2217 : BitVec 32 := 1#32
  let v2386 : BitVec 32 := Scalar.select v2385 c1_i32_2217 c16_i32_2215
  let v2387 : BitVec 32 := Scalar.remsi v2384 v2386
  let c0_i32_2219 : BitVec 32 := 0#32
  let v2389 : BitVec 1 := Scalar.cmpi .slt v2387 c0_i32_2219
  let c0_i32_2220 : BitVec 32 := 0#32
  let v2390 : BitVec 1 := Scalar.cmpi .slt v2386 c0_i32_2220
  let v2391 : BitVec 1 := Scalar.xori v2389 v2390
  let c0_i32_2218 : BitVec 32 := 0#32
  let v2388 : BitVec 1 := Scalar.cmpi .ne v2387 c0_i32_2218
  let v2392 : BitVec 1 := Scalar.andi v2391 v2388
  let v2393 : BitVec 32 := Scalar.addi v2387 v2386
  let v2394 : BitVec 32 := Scalar.select v2392 v2393 v2387
  let c1_i32_2229 : BitVec 32 := 1#32
  let v2405 : BitVec 32 := Scalar.muli v2394 c1_i32_2229
  let v2406 : BitVec 32 := Scalar.addi c0_i32_2230 v2405
  v2406.toNat
def k0_dev37 (d0 : Dev nD) : Nat :=
  let c0_i32_2251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2235 : BitVec 32 := 7#32
  let v2415 : BitVec 32 := Scalar.addi v2 c7_i32_2235
  let c16_i32_2236 : BitVec 32 := 16#32
  let c0_i32_2237 : BitVec 32 := 0#32
  let v2416 : BitVec 1 := Scalar.cmpi .eq c16_i32_2236 c0_i32_2237
  let c1_i32_2238 : BitVec 32 := 1#32
  let v2417 : BitVec 32 := Scalar.select v2416 c1_i32_2238 c16_i32_2236
  let v2418 : BitVec 32 := Scalar.remsi v2415 v2417
  let c0_i32_2240 : BitVec 32 := 0#32
  let v2420 : BitVec 1 := Scalar.cmpi .slt v2418 c0_i32_2240
  let c0_i32_2241 : BitVec 32 := 0#32
  let v2421 : BitVec 1 := Scalar.cmpi .slt v2417 c0_i32_2241
  let v2422 : BitVec 1 := Scalar.xori v2420 v2421
  let c0_i32_2239 : BitVec 32 := 0#32
  let v2419 : BitVec 1 := Scalar.cmpi .ne v2418 c0_i32_2239
  let v2423 : BitVec 1 := Scalar.andi v2422 v2419
  let v2424 : BitVec 32 := Scalar.addi v2418 v2417
  let v2425 : BitVec 32 := Scalar.select v2423 v2424 v2418
  let c1_i32_2250 : BitVec 32 := 1#32
  let v2436 : BitVec 32 := Scalar.muli v2425 c1_i32_2250
  let v2437 : BitVec 32 := Scalar.addi c0_i32_2251 v2436
  v2437.toNat
def k0_dev38 (d0 : Dev nD) : Nat :=
  let c0_i32_2272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2256 : BitVec 32 := 8#32
  let v2446 : BitVec 32 := Scalar.addi v2 c8_i32_2256
  let c16_i32_2257 : BitVec 32 := 16#32
  let c0_i32_2258 : BitVec 32 := 0#32
  let v2447 : BitVec 1 := Scalar.cmpi .eq c16_i32_2257 c0_i32_2258
  let c1_i32_2259 : BitVec 32 := 1#32
  let v2448 : BitVec 32 := Scalar.select v2447 c1_i32_2259 c16_i32_2257
  let v2449 : BitVec 32 := Scalar.remsi v2446 v2448
  let c0_i32_2261 : BitVec 32 := 0#32
  let v2451 : BitVec 1 := Scalar.cmpi .slt v2449 c0_i32_2261
  let c0_i32_2262 : BitVec 32 := 0#32
  let v2452 : BitVec 1 := Scalar.cmpi .slt v2448 c0_i32_2262
  let v2453 : BitVec 1 := Scalar.xori v2451 v2452
  let c0_i32_2260 : BitVec 32 := 0#32
  let v2450 : BitVec 1 := Scalar.cmpi .ne v2449 c0_i32_2260
  let v2454 : BitVec 1 := Scalar.andi v2453 v2450
  let v2455 : BitVec 32 := Scalar.addi v2449 v2448
  let v2456 : BitVec 32 := Scalar.select v2454 v2455 v2449
  let c1_i32_2271 : BitVec 32 := 1#32
  let v2467 : BitVec 32 := Scalar.muli v2456 c1_i32_2271
  let v2468 : BitVec 32 := Scalar.addi c0_i32_2272 v2467
  v2468.toNat
def k0_dev39 (d0 : Dev nD) : Nat :=
  let c0_i32_2293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2277 : BitVec 32 := 9#32
  let v2477 : BitVec 32 := Scalar.addi v2 c9_i32_2277
  let c16_i32_2278 : BitVec 32 := 16#32
  let c0_i32_2279 : BitVec 32 := 0#32
  let v2478 : BitVec 1 := Scalar.cmpi .eq c16_i32_2278 c0_i32_2279
  let c1_i32_2280 : BitVec 32 := 1#32
  let v2479 : BitVec 32 := Scalar.select v2478 c1_i32_2280 c16_i32_2278
  let v2480 : BitVec 32 := Scalar.remsi v2477 v2479
  let c0_i32_2282 : BitVec 32 := 0#32
  let v2482 : BitVec 1 := Scalar.cmpi .slt v2480 c0_i32_2282
  let c0_i32_2283 : BitVec 32 := 0#32
  let v2483 : BitVec 1 := Scalar.cmpi .slt v2479 c0_i32_2283
  let v2484 : BitVec 1 := Scalar.xori v2482 v2483
  let c0_i32_2281 : BitVec 32 := 0#32
  let v2481 : BitVec 1 := Scalar.cmpi .ne v2480 c0_i32_2281
  let v2485 : BitVec 1 := Scalar.andi v2484 v2481
  let v2486 : BitVec 32 := Scalar.addi v2480 v2479
  let v2487 : BitVec 32 := Scalar.select v2485 v2486 v2480
  let c1_i32_2292 : BitVec 32 := 1#32
  let v2498 : BitVec 32 := Scalar.muli v2487 c1_i32_2292
  let v2499 : BitVec 32 := Scalar.addi c0_i32_2293 v2498
  v2499.toNat
def k0_dev40 (d0 : Dev nD) : Nat :=
  let c0_i32_2314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2298 : BitVec 32 := 10#32
  let v2508 : BitVec 32 := Scalar.addi v2 c10_i32_2298
  let c16_i32_2299 : BitVec 32 := 16#32
  let c0_i32_2300 : BitVec 32 := 0#32
  let v2509 : BitVec 1 := Scalar.cmpi .eq c16_i32_2299 c0_i32_2300
  let c1_i32_2301 : BitVec 32 := 1#32
  let v2510 : BitVec 32 := Scalar.select v2509 c1_i32_2301 c16_i32_2299
  let v2511 : BitVec 32 := Scalar.remsi v2508 v2510
  let c0_i32_2303 : BitVec 32 := 0#32
  let v2513 : BitVec 1 := Scalar.cmpi .slt v2511 c0_i32_2303
  let c0_i32_2304 : BitVec 32 := 0#32
  let v2514 : BitVec 1 := Scalar.cmpi .slt v2510 c0_i32_2304
  let v2515 : BitVec 1 := Scalar.xori v2513 v2514
  let c0_i32_2302 : BitVec 32 := 0#32
  let v2512 : BitVec 1 := Scalar.cmpi .ne v2511 c0_i32_2302
  let v2516 : BitVec 1 := Scalar.andi v2515 v2512
  let v2517 : BitVec 32 := Scalar.addi v2511 v2510
  let v2518 : BitVec 32 := Scalar.select v2516 v2517 v2511
  let c1_i32_2313 : BitVec 32 := 1#32
  let v2529 : BitVec 32 := Scalar.muli v2518 c1_i32_2313
  let v2530 : BitVec 32 := Scalar.addi c0_i32_2314 v2529
  v2530.toNat
def k0_dev41 (d0 : Dev nD) : Nat :=
  let c0_i32_2335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2319 : BitVec 32 := 11#32
  let v2539 : BitVec 32 := Scalar.addi v2 c11_i32_2319
  let c16_i32_2320 : BitVec 32 := 16#32
  let c0_i32_2321 : BitVec 32 := 0#32
  let v2540 : BitVec 1 := Scalar.cmpi .eq c16_i32_2320 c0_i32_2321
  let c1_i32_2322 : BitVec 32 := 1#32
  let v2541 : BitVec 32 := Scalar.select v2540 c1_i32_2322 c16_i32_2320
  let v2542 : BitVec 32 := Scalar.remsi v2539 v2541
  let c0_i32_2324 : BitVec 32 := 0#32
  let v2544 : BitVec 1 := Scalar.cmpi .slt v2542 c0_i32_2324
  let c0_i32_2325 : BitVec 32 := 0#32
  let v2545 : BitVec 1 := Scalar.cmpi .slt v2541 c0_i32_2325
  let v2546 : BitVec 1 := Scalar.xori v2544 v2545
  let c0_i32_2323 : BitVec 32 := 0#32
  let v2543 : BitVec 1 := Scalar.cmpi .ne v2542 c0_i32_2323
  let v2547 : BitVec 1 := Scalar.andi v2546 v2543
  let v2548 : BitVec 32 := Scalar.addi v2542 v2541
  let v2549 : BitVec 32 := Scalar.select v2547 v2548 v2542
  let c1_i32_2334 : BitVec 32 := 1#32
  let v2560 : BitVec 32 := Scalar.muli v2549 c1_i32_2334
  let v2561 : BitVec 32 := Scalar.addi c0_i32_2335 v2560
  v2561.toNat
def k0_dev42 (d0 : Dev nD) : Nat :=
  let c0_i32_2356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2340 : BitVec 32 := 12#32
  let v2570 : BitVec 32 := Scalar.addi v2 c12_i32_2340
  let c16_i32_2341 : BitVec 32 := 16#32
  let c0_i32_2342 : BitVec 32 := 0#32
  let v2571 : BitVec 1 := Scalar.cmpi .eq c16_i32_2341 c0_i32_2342
  let c1_i32_2343 : BitVec 32 := 1#32
  let v2572 : BitVec 32 := Scalar.select v2571 c1_i32_2343 c16_i32_2341
  let v2573 : BitVec 32 := Scalar.remsi v2570 v2572
  let c0_i32_2345 : BitVec 32 := 0#32
  let v2575 : BitVec 1 := Scalar.cmpi .slt v2573 c0_i32_2345
  let c0_i32_2346 : BitVec 32 := 0#32
  let v2576 : BitVec 1 := Scalar.cmpi .slt v2572 c0_i32_2346
  let v2577 : BitVec 1 := Scalar.xori v2575 v2576
  let c0_i32_2344 : BitVec 32 := 0#32
  let v2574 : BitVec 1 := Scalar.cmpi .ne v2573 c0_i32_2344
  let v2578 : BitVec 1 := Scalar.andi v2577 v2574
  let v2579 : BitVec 32 := Scalar.addi v2573 v2572
  let v2580 : BitVec 32 := Scalar.select v2578 v2579 v2573
  let c1_i32_2355 : BitVec 32 := 1#32
  let v2591 : BitVec 32 := Scalar.muli v2580 c1_i32_2355
  let v2592 : BitVec 32 := Scalar.addi c0_i32_2356 v2591
  v2592.toNat
def k0_dev43 (d0 : Dev nD) : Nat :=
  let c0_i32_2377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2361 : BitVec 32 := 13#32
  let v2601 : BitVec 32 := Scalar.addi v2 c13_i32_2361
  let c16_i32_2362 : BitVec 32 := 16#32
  let c0_i32_2363 : BitVec 32 := 0#32
  let v2602 : BitVec 1 := Scalar.cmpi .eq c16_i32_2362 c0_i32_2363
  let c1_i32_2364 : BitVec 32 := 1#32
  let v2603 : BitVec 32 := Scalar.select v2602 c1_i32_2364 c16_i32_2362
  let v2604 : BitVec 32 := Scalar.remsi v2601 v2603
  let c0_i32_2366 : BitVec 32 := 0#32
  let v2606 : BitVec 1 := Scalar.cmpi .slt v2604 c0_i32_2366
  let c0_i32_2367 : BitVec 32 := 0#32
  let v2607 : BitVec 1 := Scalar.cmpi .slt v2603 c0_i32_2367
  let v2608 : BitVec 1 := Scalar.xori v2606 v2607
  let c0_i32_2365 : BitVec 32 := 0#32
  let v2605 : BitVec 1 := Scalar.cmpi .ne v2604 c0_i32_2365
  let v2609 : BitVec 1 := Scalar.andi v2608 v2605
  let v2610 : BitVec 32 := Scalar.addi v2604 v2603
  let v2611 : BitVec 32 := Scalar.select v2609 v2610 v2604
  let c1_i32_2376 : BitVec 32 := 1#32
  let v2622 : BitVec 32 := Scalar.muli v2611 c1_i32_2376
  let v2623 : BitVec 32 := Scalar.addi c0_i32_2377 v2622
  v2623.toNat
def k0_dev44 (d0 : Dev nD) : Nat :=
  let c0_i32_2398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2382 : BitVec 32 := 14#32
  let v2632 : BitVec 32 := Scalar.addi v2 c14_i32_2382
  let c16_i32_2383 : BitVec 32 := 16#32
  let c0_i32_2384 : BitVec 32 := 0#32
  let v2633 : BitVec 1 := Scalar.cmpi .eq c16_i32_2383 c0_i32_2384
  let c1_i32_2385 : BitVec 32 := 1#32
  let v2634 : BitVec 32 := Scalar.select v2633 c1_i32_2385 c16_i32_2383
  let v2635 : BitVec 32 := Scalar.remsi v2632 v2634
  let c0_i32_2387 : BitVec 32 := 0#32
  let v2637 : BitVec 1 := Scalar.cmpi .slt v2635 c0_i32_2387
  let c0_i32_2388 : BitVec 32 := 0#32
  let v2638 : BitVec 1 := Scalar.cmpi .slt v2634 c0_i32_2388
  let v2639 : BitVec 1 := Scalar.xori v2637 v2638
  let c0_i32_2386 : BitVec 32 := 0#32
  let v2636 : BitVec 1 := Scalar.cmpi .ne v2635 c0_i32_2386
  let v2640 : BitVec 1 := Scalar.andi v2639 v2636
  let v2641 : BitVec 32 := Scalar.addi v2635 v2634
  let v2642 : BitVec 32 := Scalar.select v2640 v2641 v2635
  let c1_i32_2397 : BitVec 32 := 1#32
  let v2653 : BitVec 32 := Scalar.muli v2642 c1_i32_2397
  let v2654 : BitVec 32 := Scalar.addi c0_i32_2398 v2653
  v2654.toNat
def k0_dev45 (d0 : Dev nD) : Nat :=
  let c0_i32_2419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2403 : BitVec 32 := 15#32
  let v2663 : BitVec 32 := Scalar.addi v2 c15_i32_2403
  let c16_i32_2404 : BitVec 32 := 16#32
  let c0_i32_2405 : BitVec 32 := 0#32
  let v2664 : BitVec 1 := Scalar.cmpi .eq c16_i32_2404 c0_i32_2405
  let c1_i32_2406 : BitVec 32 := 1#32
  let v2665 : BitVec 32 := Scalar.select v2664 c1_i32_2406 c16_i32_2404
  let v2666 : BitVec 32 := Scalar.remsi v2663 v2665
  let c0_i32_2408 : BitVec 32 := 0#32
  let v2668 : BitVec 1 := Scalar.cmpi .slt v2666 c0_i32_2408
  let c0_i32_2409 : BitVec 32 := 0#32
  let v2669 : BitVec 1 := Scalar.cmpi .slt v2665 c0_i32_2409
  let v2670 : BitVec 1 := Scalar.xori v2668 v2669
  let c0_i32_2407 : BitVec 32 := 0#32
  let v2667 : BitVec 1 := Scalar.cmpi .ne v2666 c0_i32_2407
  let v2671 : BitVec 1 := Scalar.andi v2670 v2667
  let v2672 : BitVec 32 := Scalar.addi v2666 v2665
  let v2673 : BitVec 32 := Scalar.select v2671 v2672 v2666
  let c1_i32_2418 : BitVec 32 := 1#32
  let v2684 : BitVec 32 := Scalar.muli v2673 c1_i32_2418
  let v2685 : BitVec 32 := Scalar.addi c0_i32_2419 v2684
  v2685.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_2424 : BitVec 32 := 256#32
  let v2694 : BitVec 32 := Scalar.muli v2 c256_i32_2424
  let v2695 : Index := Scalar.indexCast v2694
  let c0_2425 : Index := 0#32
  ![v2695.toNat, 0]
def k0_off7 (d0 : Dev nD) (c1_i32_2428 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2707 : BitVec 32 := Scalar.subi v2 c1_i32_2428
  let c16_i32_2429 : BitVec 32 := 16#32
  let c0_i32_2430 : BitVec 32 := 0#32
  let v2708 : BitVec 1 := Scalar.cmpi .eq c16_i32_2429 c0_i32_2430
  let c1_i32_2431 : BitVec 32 := 1#32
  let v2709 : BitVec 32 := Scalar.select v2708 c1_i32_2431 c16_i32_2429
  let v2710 : BitVec 32 := Scalar.remsi v2707 v2709
  let c0_i32_2433 : BitVec 32 := 0#32
  let v2712 : BitVec 1 := Scalar.cmpi .slt v2710 c0_i32_2433
  let c0_i32_2434 : BitVec 32 := 0#32
  let v2713 : BitVec 1 := Scalar.cmpi .slt v2709 c0_i32_2434
  let v2714 : BitVec 1 := Scalar.xori v2712 v2713
  let c0_i32_2432 : BitVec 32 := 0#32
  let v2711 : BitVec 1 := Scalar.cmpi .ne v2710 c0_i32_2432
  let v2715 : BitVec 1 := Scalar.andi v2714 v2711
  let v2716 : BitVec 32 := Scalar.addi v2710 v2709
  let v2717 : BitVec 32 := Scalar.select v2715 v2716 v2710
  let c256_i32_2448 : BitVec 32 := 256#32
  let v2731 : BitVec 32 := Scalar.muli v2717 c256_i32_2448
  let v2732 : Index := Scalar.indexCast v2731
  let c0_2449 : Index := 0#32
  ![v2732.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 24
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .fp8e4m3⟩
  | .hbm, ⟨22, _⟩ => ⟨S1x1, .f32⟩
  | .hbm, ⟨23, _⟩ => ⟨S4096x8192, .f32⟩
  | .local _ .vmem, ⟨0, _⟩ => ⟨S4096x8192, .fp8e4m3⟩
  | .local _ .vmem, ⟨1, _⟩ => ⟨S1x1, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Common.lean ====
/-
The vocabulary of the proof: the resource algebra, the ring of 16 devices, the semaphore cells and the memory slots of
the kernel, the values it computes, and the schedule of its signals and transfers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.Tactic

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the kernel's rounds (duties named by distances), local transfers' counters -/

abbrev UB : Type := URounds (GSem nD τ sig) (Fin 16)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans embR
instance ER_landsIn : (ER (F := F)).LandsIn (upEmb : UEmb _ (MT nD τ sig Unit (Elt F) ℕ UU ℕ)) := by
  unfold ER; infer_instance
abbrev EC : UEmb Counters (MT nD τ sig Unit (Elt F) ℕ UU ℕ) := countersEmb

abbrev 𝒱₀ : Variants := Variants.none

/-! ## Cells -/

/-- The runtime's barrier semaphore. -/
abbrev barS : Sem sig := (SemArray.scalar (sig.barrier 0 rfl) : Sems sig S_).sem
/-- The twelve semaphores of the local copies of weight tiles, by buffer slot and contraction chunk. -/
def wS (a : Fin 3) (j : Fin 4) : DmaSem sig := ⟨2 + 4 * a.val + j.val, by show _ < 78; omega⟩
/-- The semaphores of the transfers between devices: rows 0 `q_send`, 1 `q_recv`, 2 `max_send`, 3 `max_recv`, by slot. -/
def xS (a : Fin 4) (d : Fin 16) : DmaSem sig := ⟨14 + 16 * a.val + d.val, by show _ < 78; omega⟩

/-- What a semaphore is for. -/
inductive Kd
  | bar
  | x (a : Fin 4) (d : Fin 16)
  | off
deriving DecidableEq

def kd : SemLoc sig → Kd
  | .reg s => if s = barS then .bar else .off
  | .dma q => if h : 14 ≤ q.val then .x ⟨(q.val - 14) / 16, by have : q.val < 78 := q.isLt; omega⟩ ⟨(q.val - 14) % 16, by omega⟩ else .off

/-- The barrier's semaphore is of the barrier's kind. -/
theorem kd_bar : kd (.reg barS) = .bar := by unfold kd; exact if_pos rfl
/-- An exchange semaphore is of its own kind and distance. -/
theorem kd_x (a : Fin 4) (d : Fin 16) : kd (.dma (xS a d)) = .x a d := by
  have h : 14 ≤ (xS a d).val := by unfold xS; show 14 ≤ 14 + 16 * a.val + d.val; omega
  unfold kd; dsimp only; rw [dif_pos h]
  unfold xS; congr 1 <;> apply Fin.ext <;> dsimp only <;> omega
/-- A weight semaphore takes no part in the rounds. -/
theorem kd_w (a : Fin 3) (j : Fin 4) : kd (.dma (wS a j)) = .off := by
  have h : ¬ 14 ≤ (wS a j).val := by unfold wS; show ¬ 14 ≤ 2 + 4 * a.val + j.val; omega
  unfold kd; dsimp only; rw [dif_neg h]

abbrev barCell (c : Dev nD) : GSem nD τ sig := ((c : Thread nD τ), .reg barS)
abbrev xCell (a : Fin 4) (c : Dev nD) (d : Fin 16) : GSem nD τ sig := ((c : Thread nD τ), .dma (xS a d))

/-! ## Memrefs -/

abbrev xM : Memref sig .tc .vmem S256x4096 .f32 := Memref.whole cc0_stg0_0
abbrev oM : Memref sig .tc .vmem S4096x512 .f32 := Memref.whole cc0_stg1_0
abbrev gM : Memref sig .tc .hbm S4096x8192 .f32 := Memref.whole main_arg1
abbrev wM : Memref sig .tc .vmem S3x4096x512 .f32 := Memref.whole cc0_scratch0
abbrev sM : Memref sig .tc .vmem S16x256x512 .fp8e4m3 := Memref.whole cc0_scratch1
abbrev rM : Memref sig .tc .vmem S16x256x512 .fp8e4m3 := Memref.whole cc0_scratch2
abbrev mM : Memref sig .tc .vmem S16x1x128 .f32 := Memref.whole cc0_scratch3

/-- The chunks of the weight buffers lie inside them. -/
theorem rectW_inb (a : Fin 3) (j : Fin 4) : ∀ i, (![a.val, 1024 * j.val, 0] : Fin 3 → ℕ) i + S1x1024x512.size i ≤ S3x4096x512.size i := by
  intro i; fin_cases i
  · show a.val + 1 ≤ 3; omega
  · show 1024 * j.val + 1024 ≤ 4096; omega
  · show 0 + 512 ≤ 512; omega
/-- The chunks of the weights lie inside them. -/
theorem rectG_inb (t : Fin 16) (j : Fin 4) : ∀ i, (![1024 * j.val, 512 * t.val] : Fin 2 → ℕ) i + S1024x512.size i ≤ S4096x8192.size i := by
  intro i; fin_cases i
  · show 1024 * j.val + 1024 ≤ 4096; omega
  · show 512 * t.val + 512 ≤ 8192; omega
/-- The chunks of the rows of `x` lie inside them. -/
theorem rectX_inb (j : Fin 4) : ∀ i, (![0, 1024 * j.val] : Fin 2 → ℕ) i + S256x1024.size i ≤ S256x4096.size i := by
  intro i; fin_cases i
  · show 0 + 256 ≤ 256; omega
  · show 1024 * j.val + 1024 ≤ 4096; omega
/-- The row blocks of the result lie inside it. -/
theorem rectO_inb (t : Fin 16) : ∀ i, (![256 * t.val, 0] : Fin 2 → ℕ) i + S256x512.size i ≤ S4096x512.size i := by
  intro i; fin_cases i
  · show 256 * t.val + 256 ≤ 4096; omega
  · show 0 + 512 ≤ 512; omega
/-- The places for codes lie inside their buffers. -/
theorem rectQ_inb (d : Fin 16) : ∀ i, (![d.val, 0, 0] : Fin 3 → ℕ) i + S1x256x512.size i ≤ S16x256x512.size i := by
  intro i; fin_cases i
  · show d.val + 1 ≤ 16; omega
  · show 0 + 256 ≤ 256; omega
  · show 0 + 512 ≤ 512; omega
/-- The places for maxima lie inside their buffer. -/
theorem rectM_inb (d : Fin 16) : ∀ i, (![d.val, 0, 0] : Fin 3 → ℕ) i + S1x1x128.size i ≤ S16x1x128.size i := by
  intro i; fin_cases i
  · show d.val + 1 ≤ 16; omega
  · show 0 + 1 ≤ 1; omega
  · show 0 + 128 ≤ 128; omega

/-- The rectangles: a weight tile's chunk in the buffer and in the weights, the chunk of `x`, a row block of the result,
    a slot of quantised blocks, a slot of maxima. -/
abbrev rW (a : Fin 3) (j : Fin 4) : Rect S3x4096x512 := Rect.unit (s := S3x4096x512) ![a.val, 1024 * j.val, 0] S1x1024x512.size (rectW_inb a j)
abbrev rG (t : Fin 16) (j : Fin 4) : Rect S4096x8192 := Rect.unit (s := S4096x8192) ![1024 * j.val, 512 * t.val] S1024x512.size (rectG_inb t j)
abbrev rX (j : Fin 4) : Rect S256x4096 := Rect.unit (s := S256x4096) ![0, 1024 * j.val] S256x1024.size (rectX_inb j)
abbrev rO (t : Fin 16) : Rect S4096x512 := Rect.unit (s := S4096x512) ![256 * t.val, 0] S256x512.size (rectO_inb t)
abbrev rQ (d : Fin 16) : Rect S16x256x512 := Rect.unit (s := S16x256x512) ![d.val, 0, 0] S1x256x512.size (rectQ_inb d)
abbrev rMx (d : Fin 16) : Rect S16x1x128 := Rect.unit (s := S16x1x128) ![d.val, 0, 0] S1x1x128.size (rectM_inb d)

abbrev wSl (a : Fin 3) (j : Fin 4) : Memref sig .tc .vmem S1x1024x512 .f32 := wM.slice (rW a j) (fun _ => rfl)
abbrev wSq (a : Fin 3) (j : Fin 4) : Memref sig .tc .vmem S1024x512 .f32 := (wSl a j).squeeze S1024x512 squeezes_S1x1024x512_S1024x512
abbrev gSl (t : Fin 16) (j : Fin 4) : Memref sig .tc .hbm S1024x512 .f32 := gM.slice (rG t j) (fun _ => rfl)
abbrev oSl (t : Fin 16) : Memref sig .tc .vmem S256x512 .f32 := oM.slice (rO t) (fun _ => rfl)
abbrev sSl (d : Fin 16) : Memref sig .tc .vmem S1x256x512 .fp8e4m3 := sM.slice (rQ d) (fun _ => rfl)
abbrev sSq (d : Fin 16) : Memref sig .tc .vmem S256x512 .fp8e4m3 := (sSl d).squeeze S256x512 squeezes_S1x256x512_S256x512
abbrev rSl (d : Fin 16) : Memref sig .tc .vmem S1x256x512 .fp8e4m3 := rM.slice (rQ d) (fun _ => rfl)
abbrev rSq (d : Fin 16) : Memref sig .tc .vmem S256x512 .fp8e4m3 := (rSl d).squeeze S256x512 squeezes_S1x256x512_S256x512
abbrev mSl (d : Fin 16) : Memref sig .tc .vmem S1x1x128 .f32 := mM.slice (rMx d) (fun _ => rfl)
abbrev mSq (d : Fin 16) : Memref sig .tc .vmem S1x128 .f32 := (mSl d).squeeze S1x128 squeezes_S1x1x128_S1x128

end Cert.KernelProof
-- ==== Proof.Ops.lean ====
/-
Rules for one operation at the head of a program, over memrefs owned at their contents (`owns`): load, store, local copy
and its wait, and families of resources over the sixteen slots consumed one slot at a time.
-/
module

public import proofs.«01_k».proof.Proof.Common
public import Idealize.ShloMosaic.Lib.ShareLeaves

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program on device `c`'s TensorCore. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A memref of device `c` owned, at the share and contents given. -/
abbrev Own (c : Dev nD) {sp : Space} {s : Shape} {e : EltTy} (m : Memref sig .tc sp s e) (q : PosShare TreeShare) (X : s.Idx → Elt F e) : sProp 𝕄 :=
  owns (c : Thread nD τ) m q X

/-- The same at contents not said. -/
abbrev OwnE (c : Dev nD) {sp : Space} {s : Shape} {e : EltTy} (m : Memref sig .tc sp s e) : sProp 𝕄 :=
  iprop(∃ X, Own c m fullShare X)

omit [FloatOps F] in
/-- Pointwise entailment under a family. -/
theorem big_mono {I : Type} {s : Finset I} {Φ Ψ : I → sProp 𝕄} (h : ∀ i ∈ s, Φ i ⊢ Ψ i) : (bigSep s Φ : sProp 𝕄) ⊢ bigSep s Ψ := bigSep_mono h

omit [FloatOps F] in
/-- A factor may be taken out of a separating product. -/
theorem big_erase {I : Type} [DecidableEq I] {s : Finset I} {i : I} (hi : i ∈ s) {Φ : I → sProp 𝕄} : (bigSep s Φ : sProp 𝕄) = iprop(Φ i ∗ bigSep (s.erase i) Φ) := BI.bigSep_erase hi
omit [FloatOps F] in
/-- A factor may be put into a separating product. -/
theorem big_insert {I : Type} [DecidableEq I] {s : Finset I} {i : I} (hi : i ∉ s) {Φ : I → sProp 𝕄} : (bigSep (insert i s) Φ : sProp 𝕄) = iprop(Φ i ∗ bigSep s Φ) := BI.bigSep_insert hi

omit [FloatOps F] in
/-- One factor of a separating product may be kept alone. -/
theorem big_elim {I : Type} [DecidableEq I] {s : Finset I} {i : I} (hi : i ∈ s) {Φ : I → sProp 𝕄} : (bigSep s Φ : sProp 𝕄) ⊢ Φ i := BI.bigSep_elim hi

section Own

variable (c : Dev nD) {sp : Space} {s : Shape} {e : EltTy} (m : Memref sig .tc sp s e) (q : PosShare TreeShare)

omit [FloatOps F] in
/-- Owning a memref at `X` is its points-to at any buffer contents that read `X`. -/
theorem own_eq (X : s.Idx → Elt F e) (g : Buf (Elt F) (m.view.loc (c : Thread nD τ))) (hg : m.view.read (Elt F) g = X) :
    (Own c m q X : sProp 𝕄) = (m.view.loc (c : Thread nD τ) ↦[m.view.set]{q} g) := by
  subst hg
  have h₁ : (Own c m q (m.view.read (Elt F) g) : sProp 𝕄) ⊢ (m.view.loc (c : Thread nD τ) ↦[m.view.set]{q} g) := by
    unfold Own owns
    iintro ⟨%f, %hf, H⟩
    rw [show (m.view.loc (c : Thread nD τ) ↦[m.view.set]{q} g : sProp 𝕄) = (m.view.loc (c : Thread nD τ) ↦[m.view.set]{q} f) from
      pointsTo_congr fun i hi => by
        obtain ⟨x, -, rfl⟩ := Finset.mem_map.mp hi
        have := congrFun hf x
        simp only [View.read] at this
        exact ((cast_inj _).mp this).symm]
    iexact H
  have h₂ : (m.view.loc (c : Thread nD τ) ↦[m.view.set]{q} g : sProp 𝕄) ⊢ Own c m q (m.view.read (Elt F) g) := by
    unfold Own owns
    iintro H; iexists g; isplitr; · ipureintro; rfl
    iexact H
  exact BI.equiv_iff.mp ⟨h₁, h₂⟩

omit [FloatOps F] in
/-- Owning a whole reference is owning its buffer. -/
theorem own_whole (b : Ref sig .tc) (X : b.ty.Contents (Elt F)) :
    (Own c (Memref.whole b) q X : sProp 𝕄) = (((c : Thread nD τ).loc b) ↦{q} X) := owns_whole _ _ _ _

/-- A load through a rectangle whose slice is owned. -/
theorem own_load {cs : CoreSpace} (m : Memref sig .tc cs s e) (r : Rect s) (hr : ∀ a, r.stride a = 1) (X : r.shape.Idx → Elt F e)
    {hl : m.view.LoadsAt r} {α : Type} {Q : α → sProp 𝕄} {k : (r.shape.Idx → Elt F e) → Prog (TpuEff nD τ sig (Elt F) Λ₀ .tc) α} :
    (Own c (m.slice r hr) q X : sProp 𝕄)
      ⊢ iprop((Own c (m.slice r hr) q X -∗ WP c (k X) Q) -∗ WP c (.op (.load m r hl) k) Q) := by
  unfold Own owns
  iintro ⟨%f, %hf, H⟩ Hk
  iapply (wp_load_rect 𝒱₀ (c : Thread nD τ) none Set.univ (m := m) (r := r) (f := f) (q := q) (Finset.Subset.refl _)) $$ H
  iintro H
  rw [show (m.access r).read (Elt F) f = X from hf]
  iapply Hk
  iexists f; isplitr; · ipureintro; exact hf
  iexact H

/-- A load through a rectangle of a memref owned whole. -/
theorem own_load_sub {cs : CoreSpace} (m : Memref sig .tc cs s e) (r : LoadRect s) (X : s.Idx → Elt F e)
    {hl : m.view.LoadsAt r} {α : Type} {Q : α → sProp 𝕄} {k : (r.shape.Idx → Elt F e) → Prog (TpuEff nD τ sig (Elt F) Λ₀ .tc) α} :
    (Own c m q X : sProp 𝕄)
      ⊢ iprop((Own c m q X -∗ WP c (k (fun i => X (r.idx i))) Q) -∗ WP c (.op (.load m r hl) k) Q) := by
  unfold Own owns
  iintro ⟨%f, %hf, H⟩ Hk
  iapply (wp_load 𝒱₀ (c : Thread nD τ) none Set.univ (m := m) (r := r) (f := f) (q := q)
    (by intro i hi; obtain ⟨x, -, rfl⟩ := Finset.mem_map.mp hi; exact Finset.mem_map_of_mem _ (Finset.mem_univ _))) $$ H
  iintro H
  rw [show m.view.readAt (Elt F) r f = fun i => X (r.idx i) from by subst hf; rfl]
  iapply Hk
  iexists f; isplitr; · ipureintro; exact hf
  iexact H

/-- An unmasked store through a rectangle whose slice is owned in full. -/
theorem own_store {cs : CoreSpace} (m : Memref sig .tc cs s e) (r : Rect s) (hr : ∀ a, r.stride a = 1) (X w : r.shape.Idx → Elt F e)
    {hx : (m.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    (Own c (m.slice r hr) fullShare X : sProp 𝕄)
      ⊢ iprop((Own c (m.slice r hr) fullShare w -∗ WP c (k ⟨⟩) Q) -∗ WP c (.op (.store m r w Finset.univ hx hm) k) Q) := by
  unfold Own owns
  iintro ⟨%f, %hf, H⟩ Hk
  iapply (wp_store 𝒱₀ (c : Thread nD τ) none Set.univ (m := m) (r := r) (w := w) (Mk := Finset.univ) (f := f) (S := (m.slice r hr).view.set) (Finset.Subset.refl _)) $$ H
  iintro H
  iapply Hk
  iexists ((m.access r).write (Elt F) f w Finset.univ); isplitr; · ipureintro; exact View.read_write_univ _ _
  iexact H

omit [FloatOps F] in
/-- A squeezed slice is its slice, the contents under the change of shape. -/
theorem own_squeeze (s' : Shape) (hq : s.Squeezes s') (X : s.Idx → Elt F e) (hc : s.ShapeCasts s') :
    (Own c (m.squeeze s' hq) q (shapeCast s' X hc) : sProp 𝕄) = Own c m q X := by
  have key : ∀ f, ((m.squeeze s' hq).view.read (Elt F) f = shapeCast s' X hc) ↔ (m.view.read (Elt F) f = X) := by
    intro f
    constructor
    · intro h
      funext i
      have := congrFun h ((Shape.reshapeEquiv hq.numel_eq).symm i)
      have e1 : (m.squeeze s' hq).view.read (Elt F) f ((Shape.reshapeEquiv hq.numel_eq).symm i) = m.view.read (Elt F) f (Shape.reshapeEquiv hq.numel_eq ((Shape.reshapeEquiv hq.numel_eq).symm i)) := rfl
      have e2 : shapeCast s' X hc ((Shape.reshapeEquiv hq.numel_eq).symm i) = X (Shape.reshapeEquiv hq.numel_eq ((Shape.reshapeEquiv hq.numel_eq).symm i)) := rfl
      rw [e1, e2, Equiv.apply_symm_apply] at this
      exact this
    · intro h; subst h; rfl
  have h₁ : (Own c (m.squeeze s' hq) q (shapeCast s' X hc) : sProp 𝕄) ⊢ Own c m q X := by
    unfold Own owns
    iintro ⟨%f, %hf, H⟩
    iexists f; isplitr; · ipureintro; exact (key f).mp hf
    rw [← show (m.squeeze s' hq).view.set = m.view.set from View.set_reshape _ _]
    iexact H
  have h₂ : (Own c m q X : sProp 𝕄) ⊢ Own c (m.squeeze s' hq) q (shapeCast s' X hc) := by
    unfold Own owns
    iintro ⟨%f, %hf, H⟩
    iexists f; isplitr; · ipureintro; exact (key f).mpr hf
    rw [show (m.squeeze s' hq).view.set = m.view.set from View.set_reshape _ _]
    iexact H
  exact BI.equiv_iff.mp ⟨h₁, h₂⟩

/-- The sixteen shares a slot is read at while its copies are in flight. -/
def sh (d : Fin 16) : PosShare TreeShare := ShareLeaves.leaf 4 fullShare (Fin.cast (by decide) d)

omit [FloatOps F] in
/-- Full ownership is sixteen shares. -/
theorem leaves {ℓ : Loc nD τ sig} (I : Finset (Idx ℓ)) (g : Buf (Elt F) ℓ) :
    (ℓ ↦[I]{fullShare} g : sProp 𝕄) = bigSep Finset.univ fun d : Fin 16 => (ℓ ↦[I]{sh d} g) := by
  have h := ShareLeaves.pointsTo_leaves (Ix := Unit) (Name := ℕ) (U := UU) (Lvl := ℕ) I g 4 fullShare
  rw [bigSep_univ_equiv (finCongr (by decide : 16 = 2 ^ 4))] at h
  exact h

omit [FloatOps F] in
/-- Owning in full is owning at the sixteen shares. -/
theorem own_shares (X : s.Idx → Elt F e) : (Own c m fullShare X : sProp 𝕄) ⊢ bigSep Finset.univ fun d => Own c m (sh d) X := by
  iintro H
  unfold Own owns
  icases H with ⟨%f, %hf, H⟩
  ihave H := (Entails.of_eq (leaves m.view.set f)) $$ H
  iapply (big_mono (s := Finset.univ) (fun (d : Fin 16) _ => Entails.of_eq (own_eq c m (sh d) X f hf).symm)) $$ H

omit [FloatOps F] in
/-- Sixteen shares of a reference make up full ownership. -/
theorem own_unshares (X : s.Idx → Elt F e) : (bigSep Finset.univ fun d => Own c m (sh d) X) ⊢ (Own c m fullShare X : sProp 𝕄) := by
  rw [big_erase (Finset.mem_univ (0 : Fin 16))]
  iintro ⟨H0, H⟩
  have this : (Own c m (sh 0) X : sProp 𝕄) ⊢ iprop(∃ f, ⌜m.view.read (Elt F) f = X⌝ ∗ Own c m (sh 0) X) := by
    unfold Own owns
    iintro ⟨%f, %hf, H⟩
    iexists f; isplitr; · ipureintro; exact hf
    iexists f; isplitr; · ipureintro; exact hf
    iexact H
  ihave H0 := this $$ H0
  icases H0 with ⟨%f, %hf, H0⟩
  ihave H := (Entails.of_eq (big_erase (Φ := fun d : Fin 16 => Own c m (sh d) X) (Finset.mem_univ (0 : Fin 16))).symm) $$ [H0 H]
  · isplitl [H0] <;> iassumption
  iapply (Entails.of_eq (own_eq c m fullShare X f hf).symm)
  iapply (Entails.of_eq (leaves m.view.set f).symm)
  iapply (big_mono (s := Finset.univ) (fun (d : Fin 16) _ => Entails.of_eq (own_eq c m (sh d) X f hf))) $$ H

end Own

/-! ## Sixteen slots, one at a time -/

/-- Slots from `k` on hold `A`; slots from 1 to before `k` hold `B`. -/
def Seq (A B : Fin 16 → sProp 𝕄) (k : ℕ) : sProp 𝕄 :=
  iprop(bigSep (Finset.univ.filter fun d : Fin 16 => k ≤ d.val) A ∗ bigSep (Finset.univ.filter fun d : Fin 16 => 1 ≤ d.val ∧ d.val < k) B)

omit [FloatOps F] in
/-- Slot `k`'s `A` may be traded for its `B`. -/
theorem Seq_adv {A B : Fin 16 → sProp 𝕄} (d : Fin 16) {k : ℕ} (hk : d.val = k) (h1 : 1 ≤ k) :
    Seq A B k ⊢ iprop(A d ∗ (B d -∗ Seq A B (k + 1))) := by
  have e1 : (Finset.univ.filter fun x : Fin 16 => k ≤ x.val).erase d = Finset.univ.filter fun x : Fin 16 => k + 1 ≤ x.val := by
    ext x; simp only [Finset.mem_erase, Finset.mem_filter, Finset.mem_univ, true_and, ne_eq, Fin.ext_iff]; omega
  have e2 : (Finset.univ.filter fun x : Fin 16 => 1 ≤ x.val ∧ x.val < k + 1) = insert d (Finset.univ.filter fun x : Fin 16 => 1 ≤ x.val ∧ x.val < k) := by
    ext x; simp only [Finset.mem_insert, Finset.mem_filter, Finset.mem_univ, true_and, Fin.ext_iff]; omega
  unfold Seq
  rw [e2, big_insert (by simp [hk]), big_erase (s := Finset.univ.filter fun x : Fin 16 => k ≤ x.val) (i := d) (by simp [hk]), e1]
  iintro ⟨⟨HA, HAs⟩, HBs⟩
  isplitl [HA]; · iexact HA
  iintro HB
  isplitl [HAs]; · iexact HAs
  isplitl [HB] <;> iassumption

/-- The slots other than 0. -/
abbrev nz : Finset (Fin 16) := Finset.univ.erase 0

omit [FloatOps F] in
/-- A sequence begins with nothing done. -/
theorem Seq_start {A B : Fin 16 → sProp 𝕄} : bigSep nz A ⊢ Seq A B 1 := by
  have e1 : (Finset.univ.filter fun d : Fin 16 => 1 ≤ d.val) = nz := by decide
  have e2 : (Finset.univ.filter fun d : Fin 16 => 1 ≤ d.val ∧ d.val < 1) = ∅ := by decide
  unfold Seq
  rw [e1, e2, BI.bigSep_empty]
  iintro H; isplitl [H]; · iexact H
  iempintro

omit [FloatOps F] in
/-- A sequence at its end has everything done. -/
theorem Seq_done {A B : Fin 16 → sProp 𝕄} : Seq A B (15 + 1) ⊢ bigSep nz B := by
  have e1 : (Finset.univ.filter fun d : Fin 16 => 15 + 1 ≤ d.val) = ∅ := by decide
  have e2 : (Finset.univ.filter fun d : Fin 16 => 1 ≤ d.val ∧ d.val < 15 + 1) = nz := by decide
  unfold Seq
  rw [e1, e2, BI.bigSep_empty]
  iintro ⟨-, H⟩; iexact H

/-- What is owed to the slots from `k` on. -/
def tail (f : Fin 16 → CellTallies nD τ sig Unit) (k : ℕ) : CellTallies nD τ sig Unit := ∑ d ∈ Finset.univ.filter (fun d : Fin 16 => k ≤ d.val), f d

/-- What is owed from `k` on is what is owed from `k + 1` on and the duty `k`. -/
theorem tail_adv (f : Fin 16 → CellTallies nD τ sig Unit) (d : Fin 16) {k : ℕ} (hk : d.val = k) : tail f k = tail f (k + 1) + f d := by
  have e1 : (Finset.univ.filter fun x : Fin 16 => k ≤ x.val).erase d = Finset.univ.filter fun x : Fin 16 => k + 1 ≤ x.val := by
    ext x; simp only [Finset.mem_erase, Finset.mem_filter, Finset.mem_univ, true_and, ne_eq, Fin.ext_iff]; omega
  unfold tail
  rw [← e1]
  exact (Finset.sum_erase_add _ _ (by simp [hk])).symm

/-- After the last duty nothing is owed. -/
theorem tail_done (f : Fin 16 → CellTallies nD τ sig Unit) : tail f (15 + 1) = 0 := by
  unfold tail
  rw [show (Finset.univ.filter fun d : Fin 16 => 15 + 1 ≤ d.val) = ∅ by decide]
  exact Finset.sum_empty

/-- A device's dues, whatever waits it has recorded. -/
def OW (c : Dev nD) (O : CellTallies nD τ sig Unit) : sProp 𝕄 := iprop(∃ W, owes (c : Thread nD τ) O W)

end Cert.KernelProof
-- ==== Proof.Sched.lean ====
/-
The values the kernel computes and the schedule of its signals and transfers between devices.

Device `c` handles the column tiles `c+1, …, c+15, c` of the product.  It tells every device that its landing slots are
free (barrier), sends each its running maximum, then sends device `c+d` the quantised block of column tile `c+d` (slot `d`).
-/
module

public import proofs.«01_k».proof.Proof.Ops
public import Idealize.ShloMosaic.Lib.Pipeline.Value

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Values -/

/-- Device `c`'s rows of `x`. -/
def xstg (c : Dev nD) : (cc0_stg0_0 : Ref sig .tc).ty.Contents (Elt F) :=
  (win0_0.blk (0 : Fin 1)).view.read (Elt F) (m ((c : Thread nD τ).loc main_arg0))
/-- Device `c`'s weights. -/
abbrev wG (c : Dev nD) : Buf (Elt F) ((c : Thread nD τ).loc main_arg1) := m ((c : Thread nD τ).loc main_arg1)
/-- Chunk `j` of the rows of `x`. -/
def xv (c : Dev nD) (j : Fin 4) : Vec F S256x1024 .f32 := fun i => xstg m c ((rX j).toLoadRect.idx i)
/-- Chunk `j` of the weights' column tile `t`. -/
def wv (c : Dev nD) (t : Fin 16) (j : Fin 4) : Vec F S1x1024x512 .f32 :=
  shapeCast S1x1024x512 ((gSl t j).view.read (Elt F) (wG m c)) (shapeCasts_S1x1024x512_S1024x512).symm
/-- Column tile `t` of the rectified product. -/
def yv (c : Dev nD) (t : Fin 16) : FVec F S256x512 .f32 :=
  k0_pay3 (k0_pay1 (xv m c 0) (wv m c t 0) (xv m c 1) (wv m c t 1)) (k0_pay2 (xv m c 2)) (wv m c t 2) (xv m c 3) (wv m c t 3)
/-- A tile's maximum. -/
def mred (v : FVec F S256x512 .f32) : F .f32 :=
  extractAt ![0, 0, 0] (shapeCast S1x1x1 (multiReduction .maximumf [1, 2] S1 (shapeCast S1x256x512 v shapeCasts_S256x512_S1x256x512) 0xFF800000#32 reduces_S1x256x512_S1 (.inl rfl) rfl) shapeCasts_S1_S1x1x1) inpos_S1x1x1_p0_0_0
/-- Device `c`'s maximum over its sixteen tiles, from zero. -/
def macc (c : Dev nD) : F .f32 :=
  ([1, 2, 3, 4, 5, 6, 7, 8, 9, 10, 11, 12, 13, 14, 15, 0] : List (Fin 16)).foldl (fun a d => Scalar.maximumf a (mred (yv m c (c + d)))) (Scalar.ofBits .f32 0x00000000#32)
/-- The sixteen devices' maxima as device `c` gathers them. -/
def allM (c : Dev nD) : Vec F S16x1x128 .f32 := fun i => macc m (c - ⟨(i 0).val, (i 0).isLt⟩)
def inv (c : Dev nD) : F .f32 := k0_pay67 (allM m c)
def scl (c : Dev nD) : F .f32 := k0_pay68 (allM m c)
/-- Tile `t` of device `c`, quantised. -/
def qz (c : Dev nD) (t : Fin 16) : FVec F S1x256x512 .fp8e4m3 := k0_pay69 (inv m c) (yv m c t)
/-- Row block `s` of device `c`'s result. -/
def outv (c : Dev nD) (s : Fin 16) : FVec F S256x512 .f32 :=
  if s = c then k0_pay86 (inv m c) (scl m c) (yv m c c) else k0_pay87 (scl m c) (qz m s c)
/-- Device `c`'s result. -/
def outAt (c : Dev nD) : (cc0_stg1_0 : Ref sig .tc).ty.Contents (Elt F) := fun i =>
  outv m c ⟨(i 0).val / 256, by have := (i 0).isLt; change (i 0).val < 4096 at this; omega⟩
    (fun a => ⟨![(i 0).val % 256, (i 1).val] a, by fin_cases a; exact Nat.mod_lt _ (by decide); exact (i 1).isLt⟩)

abbrev Nq : ℕ := (rSq 0).view.dmaCredit
abbrev Nm : ℕ := (mSq 0).view.dmaCredit
abbrev Nw : ℕ := (wSq 0 0).view.dmaCredit
/-- A block of codes is not empty. -/
theorem Nq_pos : 0 < Nq := View.dmaCredit_pos _ (by decide)
/-- A maximum's copy is not empty. -/
theorem Nm_pos : 0 < Nm := View.dmaCredit_pos _ (by decide)
/-- A chunk of weights is not empty. -/
theorem Nw_pos : 0 < Nw := View.dmaCredit_pos _ (by decide)

/-! ## The schedule -/

/-- What duty `e` of a barrier cell of `c` hands over: the landing slots `-e` of device `c - e`. -/
def payBar (c : Dev nD) (e : Fin 16) : sProp 𝕄 := iprop(OwnE (c - e) (mSl (-e)) ∗ OwnE (c - e) (rSl (-e)))
/-- What a transfer's semaphore hands over. -/
def payX (c : Dev nD) (a : Fin 4) (d : Fin 16) : sProp 𝕄 := match a with
  | 0 => Own c (sSl d) fullShare (qz m c (c + d))
  | 1 => Own c (rSl d) fullShare (qz m (c - d) c)
  | 2 => Own c (mSl 0) (sh d) (k0_pay65 (macc m c))
  | 3 => Own c (mSl d) fullShare (k0_pay65 (macc m (c - d)))

def amtX (a : Fin 4) : ℕ := match a with
  | 0 => Nq | 1 => Nq | 2 => Nm | 3 => Nm

/-- Each exchange's amount is positive. -/
theorem amtX_pos (a : Fin 4) : 0 < amtX a := by
  unfold amtX; split
  · exact Nq_pos
  · exact Nq_pos
  · exact Nm_pos
  · exact Nm_pos

def dts : Kd → Finset (Fin 16)
  | .bar => nz
  | .x a d => if d = 0 then ∅ else {0}
  | .off => ∅

/-- One round: a barrier cell has a duty of one unit for each of the fifteen other devices, named by the distance; a
    transfer's cell of a slot other than 0 one duty of the block's credit. -/
def rd : Rounds.Schedule (GSem nD τ sig) (Fin 16) 𝕄 where
  duties g r := if r = 0 ∧ g.1.2 = .tc then dts (kd g.2) else ∅
  unitless _ := False
  amount g _ _ := match kd g.2 with
    | .bar => 1 | .x a _ => amtX a | .off => 1
  payload g _ e := match kd g.2 with
    | .bar => payBar g.1.1 e | .x a d => payX m g.1.1 a d | .off => iprop(emp)
  amount_pos g _ _ _ := by
    split
    · exact Nat.one_pos
    · exact amtX_pos _
    · exact Nat.one_pos

instance payX_storable (c : Dev nD) (a : Fin 4) (d : Fin 16) : BI.Storable (upEmb : UEmb _ 𝕄) (payX m c a d) := by
  unfold payX; split <;> infer_instance
omit [FloatOps F] in
instance payBar_storable (c : Dev nD) (d : Fin 16) : BI.Storable (upEmb : UEmb _ 𝕄) (payBar (F := F) c d) := by
  unfold payBar; infer_instance
instance rd_payload_storable (g : GSem nD τ sig) (r : ℕ) (e : Fin 16) : BI.Storable (upEmb : UEmb _ 𝕄) ((rd (F := F) m).payload g r e) := by
  unfold rd; dsimp only; split <;> infer_instance

section Sched
variable (c : Dev nD)

/-- The barrier's duties are those of the other devices. -/
theorem duties_bar : (rd (F := F) m).duties (barCell c) 0 = nz := by
  dsimp only [rd]; rw [if_pos ⟨rfl, rfl⟩, kd_bar]; rfl
/-- An exchange cell has one duty. -/
theorem duties_x (a : Fin 4) (d : Fin 16) (hd : d ≠ 0) : (rd (F := F) m).duties (xCell a c d) 0 = {0} := by
  dsimp only [rd]; rw [if_pos ⟨rfl, rfl⟩, kd_x]; exact if_neg hd
/-- An exchange cell at distance zero has none. -/
theorem duties_x0 (a : Fin 4) (r : ℕ) : (rd (F := F) m).duties (xCell a c 0) r = ∅ := by
  dsimp only [rd]; rw [kd_x]; by_cases h : r = 0
  · rw [if_pos ⟨h, rfl⟩]; rfl
  · rw [if_neg fun h' => h h'.1]
/-- After the first round no cell has a duty. -/
theorem duties_later (g : GSem nD τ sig) : ∀ r, 1 ≤ r → (rd (F := F) m).duties g r = ∅ :=
  fun r hr => by dsimp only [rd]; rw [if_neg fun h => by omega]
/-- Each device signals a barrier once. -/
theorem amount_bar (e : Fin 16) : (rd (F := F) m).amount (barCell c) 0 e = 1 := by dsimp only [rd]; rw [kd_bar]
/-- The amount of an exchange cell's duty. -/
theorem amount_x (a : Fin 4) (d e : Fin 16) : (rd (F := F) m).amount (xCell a c d) 0 e = amtX a := by dsimp only [rd]; rw [kd_x]
/-- What a barrier's signal hands over. -/
theorem payload_bar (e : Fin 16) : (rd (F := F) m).payload (barCell c) 0 e = payBar c e := by dsimp only [rd]; rw [kd_bar]
/-- What an exchange hands over. -/
theorem payload_x (a : Fin 4) (d e : Fin 16) : (rd (F := F) m).payload (xCell a c d) 0 e = payX m c a d := by dsimp only [rd]; rw [kd_x]
/-- A barrier expects fifteen signals. -/
theorem expect_bar : (rd (F := F) m).expect (barCell c) 0 = 15 := by
  unfold Schedule.expect Schedule.amountOf
  rw [duties_bar, Finset.sum_congr rfl fun d _ => amount_bar m c d, Finset.sum_const]; rfl
/-- An exchange cell expects its copy. -/
theorem expect_x (a : Fin 4) (d : Fin 16) (hd : d ≠ 0) : (rd (F := F) m).expect (xCell a c d) 0 = amtX a := by
  unfold Schedule.expect Schedule.amountOf; rw [duties_x m c a d hd, Finset.sum_singleton, amount_x]
/-- What a barrier's wait receives. -/
theorem rest_bar : bigSep ((rd (F := F) m).duties (barCell c) 0 \ ∅) (fun e => (rd (F := F) m).payload (barCell c) 0 e) = bigSep nz (payBar c) := by
  rw [Finset.sdiff_empty, duties_bar]; exact bigSep_congr fun e _ => payload_bar m c e
/-- What an exchange's wait receives. -/
theorem rest_x (a : Fin 4) (d : Fin 16) (hd : d ≠ 0) :
    bigSep ((rd (F := F) m).duties (xCell a c d) 0 \ ∅) (fun e => (rd (F := F) m).payload (xCell a c d) 0 e) = payX m c a d := by
  rw [Finset.sdiff_empty, duties_x m c a d hd, bigSep_singleton, payload_x]

end Sched

/-! ## Levels and dues -/

def L (g : GSem nD τ sig) : Finset Unit := if g.1.2 = .tc then {()} else ∅
/-- A barrier cell is at 1, a cell on which maxima land at 2, one on which blocks land at 3, the rest at 0. -/
def lv (g : GSem nD τ sig) (_ : Unit) : ℕ := match kd g.2 with
  | .bar => 1 | .x a _ => (match a with | 0 => 0 | 1 => 3 | 2 => 0 | 3 => 2) | .off => 0

/-- Other cores' cells have no level. -/
theorem L_of_ne (g : GSem nD τ sig) (h : g.1.2 ≠ .tc) : L g = ∅ := if_neg h
/-- A cell of the kernel's core has one level. -/
theorem L_tc (c : Dev nD) (sm : SemLoc sig) : L ((c : Thread nD τ), sm) = {()} := if_pos rfl
/-- The barrier's level. -/
theorem lv_bar (c : Dev nD) : lv (barCell c) () = 1 := by unfold lv; rw [kd_bar]
/-- The level of the received codes. -/
theorem lv_x1 (c : Dev nD) (d : Fin 16) : lv (xCell 1 c d) () = 3 := by unfold lv; rw [kd_x]
/-- The level of the received maxima. -/
theorem lv_x3 (c : Dev nD) (d : Fin 16) : lv (xCell 3 c d) () = 2 := by unfold lv; rw [kd_x]

def dueB (c : Dev nD) (d : Fin 16) : CellTallies nD τ sig Unit := tallyAt (barCell (c + d)) () 1
def dueM (c : Dev nD) (d : Fin 16) : CellTallies nD τ sig Unit := tallyAt (xCell 3 (c + d) d) () Nm
def dueQ (c : Dev nD) (d : Fin 16) : CellTallies nD τ sig Unit := tallyAt (xCell 1 (c + d) d) () Nq
abbrev OB (c : Dev nD) (k : ℕ) := tail (dueB c) k
abbrev OM (c : Dev nD) (k : ℕ) := tail (dueM c) k
abbrev OQ (c : Dev nD) (k : ℕ) := tail (dueQ c) k
/-- What device `c` owes at launch. -/
def O₀ (c : Dev nD) : CellTallies nD τ sig Unit := OQ c 1 + OM c 1 + OB c 1

/-- Everything owed sits above level `n`. -/
def Above (n : ℕ) (O : CellTallies nD τ sig Unit) : Prop := ∀ g u, 0 < O g u → g.1.2 = .tc ∧ n < lv g u

/-- Owing nothing is above every level. -/
theorem above_zero (n : ℕ) : Above n 0 := fun g u h => absurd h (Nat.lt_irrefl 0)
/-- A single debt is above each smaller level. -/
theorem above_at {n : ℕ} (c : Dev nD) (sm : SemLoc sig) (k : ℕ) (h : n < lv ((c : Thread nD τ), sm) ()) : Above n (tallyAt ((c : Thread nD τ), sm) () k) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)
/-- Two debts above a level are so together. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- A tail of debts above a level is above it. -/
theorem above_tail {n : ℕ} {f : Fin 16 → CellTallies nD τ sig Unit} (h : ∀ d, Above n (f d)) (k : ℕ) : Above n (tail f k) := by
  unfold tail
  induction (Finset.univ.filter fun d : Fin 16 => k ≤ d.val) using Finset.induction_on with
  | empty => rw [Finset.sum_empty]; exact above_zero n
  | insert a s ha ih => rw [Finset.sum_insert ha]; exact above_add (h a) ih
/-- The signals owed are above the weights' level. -/
theorem above_B (c : Dev nD) (k : ℕ) : Above 0 (OB c k) := above_tail (fun d => above_at _ _ _ (by rw [lv_bar]; decide)) k
/-- The maxima owed are above the barrier's level. -/
theorem above_M (c : Dev nD) (k n : ℕ) (h : n < 2) : Above n (OM c k) := above_tail (fun d => above_at _ _ _ (by rw [lv_x3]; exact h)) k
/-- The codes owed are above the level of the maxima. -/
theorem above_Q (c : Dev nD) (k n : ℕ) (h : n < 3) : Above n (OQ c k) := above_tail (fun d => above_at _ _ _ (by rw [lv_x1]; exact h)) k
/-- All that is owed at launch is above the weights' level. -/
theorem above_O₀ (c : Dev nD) : Above 0 (O₀ c) := above_add (above_add (above_Q c 1 0 (by decide)) (above_M c 1 0 (by decide))) (above_B c 1)

omit [FloatOps F] in
/-- A wait at a level below everything owed. -/
theorem mayWait_above (c : Dev nD) (sm : SemLoc sig) (n : ℕ) (O : CellTallies nD τ sig Unit) (hn : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-! ## The cells' invariants, known to every device -/

abbrev CI : Type := Option (Fin 4 × Fin 16)
def csem : CI → SemLoc sig
  | none => .reg barS
  | some (a, d) => .dma (xS a d)
abbrev kcell (ck : Dev nD × CI) : GSem nD τ sig := ((ck.1 : Thread nD τ), csem ck.2)

def records (K : Dev nD × CI → ℕ) : sProp 𝕄 :=
  iprop((bigSep Finset.univ fun ck : Dev nD × CI => cellInv ER (rd m) (K ck) (kcell ck))
    ∗ bigSep Finset.univ fun ck : Dev nD × CI => reached ER (kcell ck) 0)

instance records_persistent (K : Dev nD × CI → ℕ) : BI.Persistent (records m K) := by unfold records; infer_instance

/-- The invariants, the reached marks and the levels. -/
def PP (K : Dev nD × CI → ℕ) : sProp 𝕄 := iprop(records m K ∗ levAts L lv)
instance PP_persistent (K : Dev nD × CI → ℕ) : BI.Persistent (PP m K) := by unfold PP; infer_instance

variable (K : Dev nD × CI → ℕ)

/-- The barrier's invariant, among those known. -/
theorem inv_bar (c : Dev nD) : PP m K ⊢ (cellInv ER (rd m) (K (c, none)) (barCell c) : sProp 𝕄) := by
  unfold PP records; iintro ⟨⟨H, -⟩, -⟩
  iapply (big_elim (Finset.mem_univ ((c, none) : Dev nD × CI)) (Φ := fun ck : Dev nD × CI => (cellInv ER (rd m) (K ck) (kcell ck) : sProp 𝕄))) $$ H
/-- An exchange cell's invariant, among those known. -/
theorem inv_x (a : Fin 4) (c : Dev nD) (d : Fin 16) : PP m K ⊢ (cellInv ER (rd m) (K (c, some (a, d))) (xCell a c d) : sProp 𝕄) := by
  unfold PP records; iintro ⟨⟨H, -⟩, -⟩
  iapply (big_elim (Finset.mem_univ ((c, some (a, d)) : Dev nD × CI)) (Φ := fun ck : Dev nD × CI => (cellInv ER (rd m) (K ck) (kcell ck) : sProp 𝕄))) $$ H
/-- The barrier's first round is reached. -/
theorem rch_bar (c : Dev nD) : PP m K ⊢ (reached ER (barCell c) 0 : sProp 𝕄) := by
  unfold PP records; iintro ⟨⟨-, H⟩, -⟩
  iapply (big_elim (Finset.mem_univ ((c, none) : Dev nD × CI)) (Φ := fun ck : Dev nD × CI => (reached ER (kcell ck) 0 : sProp 𝕄))) $$ H
/-- An exchange cell's first round is reached. -/
theorem rch_x (a : Fin 4) (c : Dev nD) (d : Fin 16) : PP m K ⊢ (reached ER (xCell a c d) 0 : sProp 𝕄) := by
  unfold PP records; iintro ⟨⟨-, H⟩, -⟩
  iapply (big_elim (Finset.mem_univ ((c, some (a, d)) : Dev nD × CI)) (Φ := fun ck : Dev nD × CI => (reached ER (kcell ck) 0 : sProp 𝕄))) $$ H
/-- The levels, among what is known. -/
theorem lev_pp : PP m K ⊢ (levAts L lv : sProp 𝕄) := by
  unfold PP; iintro ⟨-, H⟩; iexact H

end Cert.KernelProof
-- ==== Proof.Xfer.lean ====
/-
The rules for the transfers of the kernel over memrefs owned at their contents: the local copy and its wait, the
transfer to another device, the wait on a scheduled cell.
-/
module

public import proofs.«01_k».proof.Proof.Sched

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono wp_dmaLocal wp_waitLocalO)

variable {F : FTy → Type} [FloatOps F]

local notation "𝕄" => MT nD τ sig Unit (Elt F) ℕ UU ℕ

variable (m : (ℓ : Loc nD τ sig) → Buf (Elt F) ℓ) (K : Dev nD × CI → ℕ)

/-- A wait at a level below everything owed, from what every device knows. -/
theorem mw_pp (c : Dev nD) (sm : SemLoc sig) (n : ℕ) (O : CellTallies nD τ sig Unit) (hn : lv ((c : Thread nD τ), sm) () ≤ n) (hO : Above n O) :
    PP m K ⊢ (MayWait (c : Thread nD τ) sm () O : sProp 𝕄) := by
  have h := mayWait_above (F := F) c sm n O hn hO
  have h2 := lev_pp m K
  iintro H
  ihave H := h2 $$ H
  iapply h $$ H

section Local
variable (c : Dev nD)

/-- A local copy started: source and destination travel, the destination comes back with the source's contents. -/
theorem own_start {sp sp' : Space} {s : Shape} {e : EltTy} (src : Memref sig .tc sp s e) (dst : Memref sig .tc sp' s e) (q : PosShare TreeShare)
    (X : s.Idx → Elt F e) (sm : DmaSem sig) {hsrc : src.view.WordExact} {hdst : dst.view.WordExact} {hsem : DmaTarget.Typed (nD := nD) (p := (.tc : Proc τ)) sp (.dma sm) (.here dst)}
    {α : Type} {Q : α → sProp 𝕄} {k : PUnit → Prog (TpuEff nD τ sig (Elt F) Λ₀ .tc) α} (N : ℕ) (hN : dst.view.amount (.dma sm) = N) (hN0 : 0 < N) :
    iprop(Own c src q X ∗ OwnE c dst ∗ semVal ((c : Thread nD τ), .dma sm) 0)
      ⊢ iprop((Flight EC (c : Thread nD τ) (.dma sm) () N iprop(Own c dst fullShare X ∗ Own c src q X) -∗ WP c (k ⟨⟩) Q)
        -∗ WP c (.op (.enqueueDma src (.here dst) (.dma sm) hsrc hdst hsem) k) Q) := by
  iintro ⟨Hs, ⟨%Y, Hd⟩, Hv⟩ Hk
  unfold Own owns
  icases Hs with ⟨%fs, %hfs, Hs⟩
  icases Hd with ⟨%fd, %hfd, Hd⟩
  iapply (wp_dmaLocal EC 𝒱₀ (c : Thread nD τ) none () N hN hN0 (Finset.Subset.refl _) (src := src) (dst := dst) (sm := .dma sm) (q := q) (fs := fs) (fd := fd)) $$ [Hs Hd Hv]
  · isplitl [Hs]; · iexact Hs
    isplitl [Hd]; · iexact Hd
    iexact Hv
  iintro HF
  iapply Hk
  iapply (Flight_mono EC (c : Thread nD τ) (sm := .dma sm) (ι := ()) (N := N) ?_) $$ HF
  iintro ⟨Hd, Hs⟩
  isplitl [Hd]
  · iexists _
    isplitr; rotate_left; · iexact Hd
    ipureintro
    rw [View.read_write_univ]
    exact hfs
  · iexists fs; isplitr; · ipureintro; exact hfs
    iexact Hs

/-- The wait for it. -/
theorem own_wait {sp sp' : Space} {s s' : Shape} {e e' : EltTy} (srcw : Memref sig .tc sp s e) (dstw : Memref sig .tc sp' s' e') (sm : DmaSem sig)
    {hsrc : srcw.view.WordExact} {hdst : dstw.view.WordExact}
    {α : Type} {Q : α → sProp 𝕄} {k : PUnit → Prog (TpuEff nD τ sig (Elt F) Λ₀ .tc) α} (N : ℕ) (hN : dstw.view.dmaCredit = N) (D : sProp 𝕄) (O : CellTallies nD τ sig Unit)
    (hkd : lv ((c : Thread nD τ), .dma sm) () = 0) (hO : Above 0 O) :
    iprop(PP m K ∗ Flight EC (c : Thread nD τ) (.dma sm) () N D ∗ OW c O)
      ⊢ iprop(((D ∗ semVal ((c : Thread nD τ), .dma sm) 0 ∗ OW c O) -∗ WP c (k ⟨⟩) Q)
        -∗ WP c (.op (.waitDma2 sm srcw dstw hsrc hdst) k) Q) := by
  unfold OW
  iintro ⟨HP, HF, ⟨%W, HO⟩⟩ Hk
  iapply (wp_waitLocalO EC 𝒱₀ (c : Thread nD τ) none (sem := sm) (dstw := dstw) () hN (D := D) (O := O) (W := W)) $$ [HP HF HO]
  · isplitl [HF]; · iexact HF
    isplitl [HO]; · iexact HO
    iapply (mw_pp m K c (.dma sm) 0 O (le_of_eq hkd) hO) $$ HP
  iintro ⟨HD, Hv, HO⟩
  iapply Hk
  isplitl [HD]; · iexact HD
  isplitl [Hv]; · iexact Hv
  iexists _; iexact HO

end Local

section Remote
variable (c : Dev nD)

/-- A transfer of a slot to device `n`, completing duty 0 of the sending cell `(a, d)` here and duty 0 of the landing
    cell `(b, d)` there. -/
theorem own_send {sp sp' : Space} {s : Shape} {e : EltTy} (n : Dev nD) (src : Memref sig .tc sp s e) (dst : Memref sig .tc sp' s e) (q : PosShare TreeShare)
    (X : s.Idx → Elt F e) (a b : Fin 4) (d : Fin 16) (hd : d ≠ 0) {hsc : dst.view.ref.isScScratch = false}
    {hsrc : src.view.WordExact} {hdst : dst.view.WordExact} {hsem : DmaTarget.Typed (nD := nD) (p := (.tc : Proc τ)) sp (.dma (xS b d)) (.remote (n : Thread nD τ) dst (.dma (xS a d)) hsc)}
    {α : Type} {Q : α → sProp 𝕄} {k : PUnit → Prog (TpuEff nD τ sig (Elt F) Λ₀ .tc) α} (N : ℕ) (hN : dst.view.amount (.dma (xS b d)) = N) (hNa : amtX a = N) (hNb : amtX b = N)
    {O₁ : CellTallies nD τ sig Unit} (O : CellTallies nD τ sig Unit) (hO : O₁ = O + tallyAt (xCell b n d) () N)
    (hp₁ : Own c src q X ⊢ payX m c a d) (hp₂ : Own n dst fullShare X ⊢ payX m n b d) :
    iprop(PP m K ∗ Own c src q X ∗ OwnE n dst ∗ OW c O₁ ∗ dutyTok ER (xCell a c d) 0 0 ∗ dutyTok ER (xCell b n d) 0 0)
      ⊢ iprop(((cred (tallyAt (xCell a c d) () N) ∗ OW c O) -∗ WP c (k ⟨⟩) Q)
        -∗ WP c (.op (.enqueueDma src (.remote (n : Thread nD τ) dst (.dma (xS a d)) hsc) (.dma (xS b d)) hsrc hdst hsem) k) Q) := by
  have hop : ∀ (c : Dev nD) {sp : Space} (mr : Memref sig .tc sp s e) (q : PosShare TreeShare) (g : Buf (Elt F) (mr.view.loc (c : Thread nD τ))),
      mr.view.read (Elt F) g = X → ((mr.view.loc (c : Thread nD τ) ↦[mr.view.set]{q} g : sProp 𝕄) ⊢ Own c mr q X) :=
    fun c _ mr q g h => Entails.of_eq (own_eq c mr q X g h).symm
  have hop2 : (Own c src q X : sProp 𝕄) ⊢ iprop(∃ fs, ⌜src.view.read (Elt F) fs = X⌝ ∗ (src.view.loc (c : Thread nD τ) ↦[src.view.set]{q} fs)) := by
    unfold Own owns; exact Entails.rfl
  have hop3 : (OwnE n dst : sProp 𝕄) ⊢ iprop(∃ fd, (dst.view.loc (n : Thread nD τ) ↦[dst.view.set]{fullShare} fd)) := by
    iintro ⟨%Y, H⟩
    unfold Own owns
    icases H with ⟨%fd, -, H⟩; iexists fd; iexact H
  unfold OW
  iintro ⟨#HP, Hs, Hd, ⟨%W, HO⟩, Ht, Ht'⟩ Hk
  ihave Hs := hop2 $$ Hs
  icases Hs with ⟨%fs, %hfs, Hs⟩
  ihave Hd := hop3 $$ Hd
  icases Hd with ⟨%fd, Hd⟩
  iapply (Rounds.wp_send_pointsTo 𝒱₀ ER (rd m) (c : Thread nD τ) none (c' := (n : Thread nD τ)) (κ₁ := K (c, some (a, d))) (κ₂ := K (n, some (b, d)))
    (r₁ := 0) (r₂ := 0) (d₁ := 0) (d₂ := 0) (src := src) (dst := dst) (fs := fs) (fd := fd) (q := q) (sS := .dma (xS a d)) (sem := .dma (xS b d))
    (by rw [duties_x m c a d hd]; exact Finset.mem_singleton_self _) (by rw [duties_x m n b d hd]; exact Finset.mem_singleton_self _)
    () () N hN ((amount_x m c a d 0).trans hNa) ((amount_x m n b d 0).trans hNb) O hO (W := W)
    (by rw [payload_x]; exact (hop c src q fs hfs).trans hp₁)
    (by rw [payload_x]; exact (hop n dst fullShare _ (by rw [View.read_write_univ]; exact hfs)).trans hp₂)) $$ [Hs Hd HO Ht Ht']
  · isplitr; · iapply (inv_x m K a c d) $$ HP
    isplitr; · iapply (inv_x m K b n d) $$ HP
    isplitl [Hs]; · iexact Hs
    isplitl [Hd]; · iexact Hd
    isplitl [HO]; · iexact HO
    isplitl [Ht]; · iexact Ht
    isplitr; · iapply (rch_x m K a c d) $$ HP
    isplitl [Ht']; · iexact Ht'
    iapply (rch_x m K b n d) $$ HP
  iintro ⟨Hc, HO⟩
  iapply Hk
  isplitl [Hc]; · iexact Hc
  iexists W; iexact HO

/-- The wait for everything due on a scheduled transfer cell. -/
theorem own_recv {sp sp' : Space} {s s' : Shape} {e e' : EltTy} (srcw : Memref sig .tc sp s e) (dstw : Memref sig .tc sp' s' e') (a : Fin 4) (d : Fin 16) (hd : d ≠ 0)
    {hsrc : srcw.view.WordExact} {hdst : dstw.view.WordExact}
    {α : Type} {Q : α → sProp 𝕄} {k : PUnit → Prog (TpuEff nD τ sig (Elt F) Λ₀ .tc) α} (N : ℕ) (hN : dstw.view.dmaCredit = N) (hNa : amtX a = N) (O : CellTallies nD τ sig Unit)
    (n : ℕ) (hn : lv (xCell a c d) () ≤ n) (hO : Above n O) :
    iprop(PP m K ∗ cred (tallyAt (xCell a c d) () N) ∗ OW c O ∗ atPos ER (xCell a c d) 0 ∅ 0)
      ⊢ iprop(((payX m c a d ∗ OW c O ∗ atPos ER (xCell a c d) 1 ∅ 0) -∗ WP c (k ⟨⟩) Q)
        -∗ WP c (.op (.waitDma2 (xS a d) srcw dstw hsrc hdst) k) Q) := by
  subst hN
  unfold OW
  iintro ⟨#HP, Hc, ⟨%W, HO⟩, Hat⟩ Hk
  iapply (Rounds.wp_wait_rest_token 𝒱₀ ER (rd m) (c : Thread nD τ) none (κ := K (c, some (a, d)))
    (wpE_waitDma2_eq 𝒱₀ (c : Thread nD τ) none Set.univ) (Set.mem_univ _) () (O := O) (W := W) (R := 0) (m := 0) (T := ∅)
    (by rw [Nat.zero_add, expect_x m c a d hd, hNa])) $$ [Hc HO Hat]
  · isplitr; · iapply (inv_x m K a c d) $$ HP
    isplitl [Hc]; · iexact Hc
    isplitl [HO]; · iexact HO
    isplitr [Hat]
    · iapply (mw_pp m K c (.dma (xS a d)) n O hn hO) $$ HP
    iexact Hat
  iintro ⟨HO, Hat, -, Hp⟩
  iapply Hk
  isplitl [Hp]; · iapply (Entails.of_eq (rest_x m c a d hd)) $$ Hp
  isplitl [HO]; · iexists _; iexact HO
  iexact Hat

end Remote

end Cert.KernelProof
-- ==== Proof.Tile.lean ====
/-
Steps of the kernel's first two phases: the signals that open the landing slots and the wait for the fifteen others', the
copies of weight tiles into the three-slot buffer, and the product's column tiles.
-/
module

public import proofs.«01_k».proof.Proof.Xfer

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × CI → ℕ)

/-! ## Arithmetic on the ring and the offsets -/

/-- Adding and subtracting a distance. -/
theorem add_sub (c d : Fin 16) : c + d - d = c := by revert c d; decide +kernel
/-- Subtracting and adding a distance. -/
theorem sub_add (c d : Fin 16) : c - d + d = c := by revert c d; decide +kernel
/-- Subtracting a negated distance adds it. -/
theorem sub_neg' (c d : Fin 16) : c - -d = c + d := by revert c d; decide +kernel
/-- Negating a distance twice. -/
theorem neg_neg' (d : Fin 16) : - -d = d := by revert d; decide +kernel

/-- The distance back. -/
def negE : Fin 16 ≃ Fin 16 := ⟨fun d => -d, fun d => -d, neg_neg', neg_neg'⟩

/-- Where the first chunk of a tile's weights begins. -/
theorem off1_eq (c d : Fin 16) : k0_off1 c (BitVec.ofNat 32 d.val) = ![1024 * (0 : Fin 4).val, 512 * (c + d).val] := by revert c d; decide +kernel
/-- Where the second chunk of a tile's weights begins. -/
theorem off2_eq (c d : Fin 16) : k0_off2 c (BitVec.ofNat 32 d.val) = ![1024 * (1 : Fin 4).val, 512 * (c + d).val] := by revert c d; decide +kernel
/-- Where the third chunk of a tile's weights begins. -/
theorem off3_eq (c d : Fin 16) : k0_off3 c (BitVec.ofNat 32 d.val) = ![1024 * (2 : Fin 4).val, 512 * (c + d).val] := by revert c d; decide +kernel
/-- Where the fourth chunk of a tile's weights begins. -/
theorem off4_eq (c d : Fin 16) : k0_off4 c (BitVec.ofNat 32 d.val) = ![1024 * (3 : Fin 4).val, 512 * (c + d).val] := by revert c d; decide +kernel
/-- Where a tile's row block begins. -/
theorem off5_eq (c d : Fin 16) : k0_off5 c (BitVec.ofNat 32 d.val) = ![256 * (c + d).val, 0] := by revert c d; decide +kernel
/-- Where the own row block begins. -/
theorem off6_eq (c : Fin 16) : k0_off6 c = ![256 * (c + 0).val, 0] := by revert c; decide +kernel
/-- Where a received row block begins. -/
theorem off7_eq (c : Fin 16) (d : Fin 15) : k0_off7 c (BitVec.ofNat 32 (1 + d.val)) = ![256 * (c - d.succ).val, 0] := by revert c d; decide +kernel

/-! ## Signals and the barrier -/

/-- Another state put in a program's precondition. -/
theorem st_conv (c : Dev nD) {α : Type} {Q : α → sProp 𝕄} {p : Prog (TpuEff nD τ sig (Elt F) Λ₀ .tc) α} {S S' : sProp 𝕄} (h0 : S ⊢ S') (h : S' ⊢ WP c p Q) : S ⊢ WP c p Q := h0.trans h

/-- A device reads its own number. -/
theorem st_dev (c : Dev nD) {α : Type} {Q : α → sProp 𝕄} {k : Dev nD → Prog (TpuEff nD τ sig (Elt F) Λ₀ .tc) α} {S : sProp 𝕄}
    (h : S ⊢ WP c (k c) Q) : S ⊢ WP c (.op .deviceId k) Q := by
  show S ⊢ wp frame (wpE (defs₀ (F := F)) 𝒱₀ (c : Thread nD τ) none) Set.univ (.op .deviceId k) Q
  rw [wp_deviceId]
  exact h

/-- What device `c` needs to signal device `c + d`: its ticket there, and its own landing slots `-d`. -/
def sigA (c : Dev nD) (d : Fin 16) : sProp 𝕄 := iprop(dutyTok ER (barCell (c + d)) 0 d ∗ OwnE c (mSl (-d)) ∗ OwnE c (rSl (-d)))
/-- Before the signal at distance `k`. -/
def SigSt (c : Dev nD) (k : ℕ) : sProp 𝕄 := iprop(PP m K ∗ OW c (OQ c 1 + OM c 1 + OB c k) ∗ Seq (sigA c) (fun _ => iprop(emp)) k)

/-- A device signals another's barrier. -/
theorem st_sig (c n : Dev nD) {k : ℕ} (hn : n = c + Fin.ofNat 16 k) (hk : (Fin.ofNat 16 k).val = k) (h1 : 1 ≤ k) {s : Sem sig} (hs : s = barS)
    {α : Type} {Q : α → sProp 𝕄} {kk : PUnit → Prog (TpuEff nD τ sig (Elt F) Λ₀ .tc) α} {R : sProp 𝕄}
    (h : iprop(SigSt m K c (k + 1) ∗ R) ⊢ WP c (kk ⟨⟩) Q) :
    iprop(SigSt m K c k ∗ R) ⊢ WP c (.op (.semSignal (n : Thread nD τ) s 1) kk) Q := by
  subst hn hs
  generalize Fin.ofNat 16 k = d at hk ⊢
  have hd0 : d ∈ nz := Finset.mem_erase.mpr ⟨fun h0 => by subst h0; rw [← hk] at h1; exact absurd h1 (by decide), Finset.mem_univ _⟩
  have hob : OQ c 1 + OM c 1 + OB c k = OQ c 1 + OM c 1 + OB c (k + 1) + tallyAt (barCell (c + d)) () 1 :=
    (congrArg (fun x => OQ c 1 + OM c 1 + x) (tail_adv (dueB c) d hk)).trans (add_assoc _ _ _).symm
  unfold SigSt OW
  iintro ⟨⟨#HP, ⟨%W, HO⟩, HS⟩, HR⟩
  ihave HS := (Seq_adv (A := sigA c) (B := fun _ => iprop(emp)) d hk h1) $$ HS
  unfold sigA
  icases HS with ⟨⟨Ht, Hm, Hr⟩, HS⟩
  iapply (Rounds.wp_signal 𝒱₀ ER (rd m) (c : Thread nD τ) none (dst := ((c + d : Dev nD) : Thread nD τ)) (sem := barS) (κ := K (c + d, none)) (r := 0) (d := d) (k' := 1)
    (by rw [duties_bar]; exact hd0) (amount_bar m (c + d) d) () (OQ c 1 + OM c 1 + OB c (k + 1))
    (O₀ := OQ c 1 + OM c 1 + OB c k) hob (W := W)) $$ [HO Ht Hm Hr]
  · isplitr; · iapply (inv_bar m K (c + d)) $$ HP
    isplitl [HO]; · iexact HO
    isplitl [Ht]; · iexact Ht
    isplitl [Hm Hr]
    · rw [payload_bar]; unfold payBar; rw [add_sub c d]
      isplitl [Hm] <;> iassumption
    iapply (rch_bar m K (c + d)) $$ HP
  iintro HO
  iapply h
  unfold SigSt OW sigA
  isplitr [HR]
  · isplitr; · iexact HP
    isplitl [HO]; · iexists W; iexact HO
    iapply HS; iempintro
  iexact HR

/-- After the barrier: every other device's landing slots for this device's blocks. -/
def BarSt (c : Dev nD) : sProp 𝕄 :=
  iprop(PP m K ∗ OW c (OQ c 1 + OM c 1) ∗ atPos ER (barCell c) 1 ∅ 0 ∗ bigSep nz fun d : Fin 16 => iprop(OwnE (c + d) (mSl d) ∗ OwnE (c + d) (rSl d)))

omit [FloatOps F] in
/-- What the barrier hands over, by the distance to the device it came from. -/
theorem pay_bar_flip (c : Dev nD) : (bigSep nz (payBar c) : sProp 𝕄) = bigSep nz fun d : Fin 16 => iprop(OwnE (c + d) (mSl d) ∗ OwnE (c + d) (rSl d)) := by
  have e : nz.map negE.toEmbedding = nz := by decide
  have h := bigSep_map (s := nz) (e := negE.toEmbedding) (Φ := (payBar c : Fin 16 → sProp 𝕄))
  rw [e] at h
  rw [h]
  refine bigSep_congr fun d _ => ?_
  show payBar c (-d) = _
  unfold payBar
  rw [sub_neg', neg_neg']

/-- A device waits at its barrier. -/
theorem st_bar (c : Dev nD) {s : Sem sig} (hs : s = barS) {k : ℕ} (hk : k = 15 + 1)
    {α : Type} {Q : α → sProp 𝕄} {kk : PUnit → Prog (TpuEff nD τ sig (Elt F) Λ₀ .tc) α} {R : sProp 𝕄}
    (h : iprop(BarSt m K c ∗ R) ⊢ WP c (kk ⟨⟩) Q) :
    iprop(SigSt m K c k ∗ cred (tallyAt (barCell c) () 15) ∗ atPos ER (barCell c) 0 ∅ 0 ∗ R) ⊢ WP c (.op (.semWait s 15) kk) Q := by
  subst hs hk
  have hz : OQ c 1 + OM c 1 + OB c (15 + 1) = OQ c 1 + OM c 1 := (congrArg (fun x => OQ c 1 + OM c 1 + x) (tail_done (dueB c))).trans (add_zero _)
  unfold SigSt OW
  rw [hz]
  iintro ⟨⟨#HP, ⟨%W, HO⟩, -⟩, Hc, Hat, HR⟩
  iapply (Rounds.wp_wait_rest_token 𝒱₀ ER (rd m) (c : Thread nD τ) none (κ := K (c, none))
    (wpE_semWait_eq 𝒱₀ (c : Thread nD τ) none Set.univ) (Set.mem_univ _) () (O := OQ c 1 + OM c 1) (W := W) (R := 0) (m := 0) (T := ∅)
    (by rw [Nat.zero_add, expect_bar m c])) $$ [Hc HO Hat]
  · isplitr; · iapply (inv_bar m K c) $$ HP
    isplitl [Hc]; · iexact Hc
    isplitl [HO]; · iexact HO
    isplitr [Hat]
    · iapply (mw_pp m K c (.reg barS) 1 _ (le_of_eq (lv_bar c)) (above_add (above_Q c 1 1 (by decide)) (above_M c 1 1 (by decide)))) $$ HP
    iexact Hat
  iintro ⟨HO, Hat, -, Hp⟩
  iapply h
  unfold BarSt OW
  isplitr [HR]
  · isplitr; · iexact HP
    isplitl [HO]; · iexists _; iexact HO
    isplitl [Hat]; · iexact Hat
    iapply (Entails.of_eq (pay_bar_flip c))
    iapply (Entails.of_eq (rest_bar m c)) $$ Hp
  iexact HR

/-! ## Column tiles -/

/-- Chunk `j` of the weights' column tile `t`, as a copy delivers it. -/
def gX (c : Dev nD) (t : Fin 16) (j : Fin 4) : S1024x512.Idx → Elt F .f32 := (gSl t j).view.read (Elt F) (wG m c)

/-- The share of the weights that the copies into chunk `j` of slot `a` read at. -/
abbrev qs (a : Fin 3) (j : Fin 4) : PosShare TreeShare := sh ⟨4 * a.val + j.val, by omega⟩

/-- The weights owned at a share: a window of them and the way back. -/
theorem own_window (c : Dev nD) (t : Fin 16) (j : Fin 4) (q : PosShare TreeShare) :
    (Own c gM q (wG m c) : sProp 𝕄) ⊢ iprop(Own c (gSl t j) q (gX m c t j) ∗ (Own c (gSl t j) q (gX m c t j) -∗ Own c gM q (wG m c))) := by
  have hs : (gSl t j).view.set ⊆ gM.view.set := View.set_slice_subset _ _
  rw [own_eq c gM q (wG m c) (wG m c) rfl, own_eq c (gSl t j) q (gX m c t j) (wG m c) rfl]
  iintro H
  ihave H := (pointsTo_split_subset hs).1 $$ H
  icases H with ⟨H1, H2⟩
  isplitl [H1]; · iexact H1
  iintro H1
  iapply (pointsTo_split_subset hs).2
  isplitl [H1] <;> iassumption

/-- Chunk `j` of slot `a` of the buffer: free, or with the copy of a column tile in flight to it. -/
def cellSt (c : Dev nD) (p : Fin 3 × Fin 4) : Option (Fin 16) → sProp 𝕄
  | none => iprop(OwnE c (wSl p.1 p.2) ∗ semVal ((c : Thread nD τ), .dma (wS p.1 p.2)) 0 ∗ Own c gM (qs p.1 p.2) (wG m c))
  | some d => iprop(Flight EC (c : Thread nD τ) (.dma (wS p.1 p.2)) () Nw iprop(Own c (wSq p.1 p.2) fullShare (gX m c (c + d) p.2) ∗ Own c (gSl (c + d) p.2) (qs p.1 p.2) (gX m c (c + d) p.2))
      ∗ (Own c (gSl (c + d) p.2) (qs p.1 p.2) (gX m c (c + d) p.2) -∗ Own c gM (qs p.1 p.2) (wG m c)))

/-- After `s` copies have been started and `w` waited for: the tile in flight to a chunk. -/
def fl (s w : ℕ) (p : Fin 3 × Fin 4) : Option (Fin 16) :=
  ((List.finRange 16).find? fun x => decide (x.val % 3 = p.1.val ∧ w ≤ 4 * x.val + p.2.val ∧ 4 * x.val + p.2.val < s)).map (· + 1)

/-- The row blocks of the result, the first `n` tiles' product there. -/
def OutSt (c : Dev nD) (n : ℕ) : sProp 𝕄 :=
  iprop(∃ v : Fin 16 → (S256x512.Idx → Elt F .f32), ⌜∀ x : Fin 16, x.val < n → v (c + (x + 1)) = yv m c (c + (x + 1))⌝
    ∗ bigSep Finset.univ fun t : Fin 16 => Own c (oSl t) fullShare (v t))

/-- The state of the product's phase: `s` copies started, `w` waited for, `n` tiles stored. -/
def TileSt (c : Dev nD) (s w n : ℕ) : sProp 𝕄 :=
  iprop(PP m K ∗ OW c (OQ c 1 + OM c 1) ∗ Own c xM fullShare (xstg m c)
    ∗ (bigSep Finset.univ fun p : Fin 3 × Fin 4 => cellSt m c p (fl s w p)) ∗ OutSt m c n)

/-- One chunk's state changed. -/
theorem cells_set (c : Dev nD) (p : Fin 3 × Fin 4) (f g : Fin 3 × Fin 4 → Option (Fin 16)) (hfg : ∀ q, q ≠ p → f q = g q) :
    (bigSep Finset.univ fun q : Fin 3 × Fin 4 => cellSt m c q (f q) : sProp 𝕄)
      ⊢ iprop(cellSt m c p (f p) ∗ (cellSt m c p (g p) -∗ bigSep Finset.univ fun q : Fin 3 × Fin 4 => cellSt m c q (g q))) := by
  rw [big_erase (Finset.mem_univ p), big_erase (Finset.mem_univ p) (Φ := fun q : Fin 3 × Fin 4 => cellSt m c q (g q)),
    bigSep_congr (s := Finset.univ.erase p) (Φ := fun q : Fin 3 × Fin 4 => cellSt m c q (f q)) (Ψ := fun q : Fin 3 × Fin 4 => cellSt m c q (g q))
      fun q hq => by rw [hfg q (Finset.ne_of_mem_erase hq)]]
  iintro ⟨H, Hs⟩
  isplitl [H]; · iexact H
  iintro H
  isplitl [H] <;> iassumption

/-- The weights' semaphores have the lowest level. -/
theorem kl_w (c : Dev nD) (a : Fin 3) (j : Fin 4) : lv ((c : Thread nD τ), .dma (wS a j)) () = 0 := by unfold lv; rw [kd_w]

/-- What a weight copy adds to its semaphore. -/
theorem amount_w (a : Fin 3) (j : Fin 4) : (wSq a j).view.amount (.dma (wS a j)) = Nw := rfl
/-- The credit of a weight copy. -/
theorem credit_w (a : Fin 3) (j : Fin 4) : (wSq a j).view.dmaCredit = Nw := rfl

/-- A copy of chunk `j` of tile `c + d` started. -/
theorem st_start (c : Dev nD) (a : Fin 3) (j : Fin 4) (d : Fin 16) {s w n : ℕ} {o : Fin 2 → ℕ} (ho : o = ![1024 * j.val, 512 * (c + d).val]) {sm : DmaSem sig} (hsm : sm = wS a j)
    (h0 : fl s w (a, j) = none) (h1 : fl (s + 1) w (a, j) = some d) (h2 : ∀ q, q ≠ (a, j) → fl s w q = fl (s + 1) w q)
    {inb : ∀ i, o i + S1024x512.size i ≤ S4096x8192.size i} {hx1 hx2 hx3}
    {α : Type} {Q : α → sProp 𝕄} {kk : PUnit → Prog (TpuEff nD τ sig (Elt F) Λ₀ .tc) α} {R : sProp 𝕄}
    (h : iprop(TileSt m K c (s + 1) w n ∗ R) ⊢ WP c (kk ⟨⟩) Q) :
    iprop(TileSt m K c s w n ∗ R)
      ⊢ WP c (.op (.enqueueDma (gM.slice (Rect.unit (s := S4096x8192) o S1024x512.size inb) (fun _ => rfl)) (.here (wSq a j)) (.dma sm) hx1 hx2 hx3) kk) Q := by
  subst ho hsm
  unfold TileSt
  iintro ⟨⟨#HP, HO, Hx, Hc, Hv⟩, HR⟩
  ihave Hc := (cells_set m c (a, j) (fl s w) (fl (s + 1) w) h2) $$ Hc
  rw [h0, h1]
  icases Hc with ⟨Hc, Hcs⟩
  unfold cellSt
  dsimp only
  icases Hc with ⟨⟨%Y, Hd⟩, Hs, Hg⟩
  ihave Hg := (own_window m c (c + d) j (qs a j)) $$ Hg
  icases Hg with ⟨Hg, Hgb⟩
  iapply (own_start c (gSl (c + d) j) (wSq a j) (qs a j) (gX m c (c + d) j) (wS a j) Nw (amount_w a j) Nw_pos) $$ [Hg Hd Hs]
  · isplitl [Hg]; · iexact Hg
    isplitl [Hd]
    · iexists (shapeCast S1024x512 Y shapeCasts_S1x1024x512_S1024x512)
      iapply (Entails.of_eq (own_squeeze c (wSl a j) fullShare S1024x512 squeezes_S1x1024x512_S1024x512 Y shapeCasts_S1x1024x512_S1024x512).symm) $$ Hd
    iexact Hs
  iintro HF
  iapply h
  unfold TileSt
  isplitr [HR]
  · isplitr; · iexact HP
    isplitl [HO]; · iexact HO
    isplitl [Hx]; · iexact Hx
    isplitr [Hv]
    · iapply Hcs
      isplitl [HF] <;> iassumption
    iexact Hv
  iexact HR

/-- A chunk's copy waited for, then its operands loaded. -/
theorem st_chunk (c : Dev nD) (a : Fin 3) (j : Fin 4) (d : Fin 16) {s w n : ℕ} {sm : DmaSem sig} (hsm : sm = wS a j)
    (h0 : fl s w (a, j) = some d) (h1 : fl s (w + 1) (a, j) = none) (h2 : ∀ q, q ≠ (a, j) → fl s w q = fl s (w + 1) q)
    {sp : Space} {ss : Shape} {ee : EltTy} {srcw : Memref sig .tc sp ss ee} {hx1 : srcw.view.WordExact} {hx2 : (wSq a j).view.WordExact}
    {ox : Fin 2 → ℕ} (hox : ox = ![0, 1024 * j.val]) {ix : ∀ i, ox i + S256x1024.size i ≤ S256x4096.size i}
    {hlx : xM.view.LoadsAt (Rect.unit (s := S256x4096) ox S256x1024.size ix).toLoadRect}
    {ow : Fin 3 → ℕ} (how : ow = ![a.val, 1024 * j.val, 0]) {iw : ∀ i, ow i + S1x1024x512.size i ≤ S3x4096x512.size i}
    {hlw : wM.view.LoadsAt (Rect.unit (s := S3x4096x512) ow S1x1024x512.size iw).toLoadRect}
    {α : Type} {Q : α → sProp 𝕄} {kk : (S256x1024.Idx → Elt F .f32) → (S1x1024x512.Idx → Elt F .f32) → Prog (TpuEff nD τ sig (Elt F) Λ₀ .tc) α} {R : sProp 𝕄}
    (h : iprop(TileSt m K c s (w + 1) n ∗ R) ⊢ WP c (kk (xv m c j) (wv m c (c + d) j)) Q) :
    iprop(TileSt m K c s w n ∗ R)
      ⊢ WP c (.op (.waitDma2 sm srcw (wSq a j) hx1 hx2) fun _ =>
          .op (.load xM (Rect.unit (s := S256x4096) ox S256x1024.size ix).toLoadRect hlx) fun x0 =>
          .op (.load wM (Rect.unit (s := S3x4096x512) ow S1x1024x512.size iw).toLoadRect hlw) fun w0 => kk x0 w0) Q := by
  subst hsm hox how
  unfold TileSt
  iintro ⟨⟨#HP, HO, Hx, Hc, Hv⟩, HR⟩
  ihave Hc := (cells_set m c (a, j) (fl s w) (fl s (w + 1)) h2) $$ Hc
  rw [h0, h1]
  icases Hc with ⟨Hc, Hcs⟩
  unfold cellSt
  dsimp only
  icases Hc with ⟨HF, Hgb⟩
  iapply (own_wait m K c srcw (wSq a j) (wS a j) Nw (credit_w a j) _ (OQ c 1 + OM c 1) (kl_w c a j)
    (above_add (above_Q c 1 0 (by decide)) (above_M c 1 0 (by decide)))) $$ [HF HO]
  · isplitr; · iexact HP
    isplitl [HF] <;> iassumption
  iintro ⟨⟨Hd, Hg⟩, Hs, HO⟩
  ihave Hg := Hgb $$ Hg
  iapply (own_load_sub c fullShare xM (rX j).toLoadRect (xstg m c)) $$ Hx
  iintro Hx
  have e : (Own c (wSq a j) fullShare (gX m c (c + d) j) : sProp 𝕄) ⊢ Own c (wSl a j) fullShare (wv m c (c + d) j) := by
    refine (Entails.of_eq ?_).trans (Entails.of_eq (own_squeeze c (wSl a j) fullShare S1024x512 squeezes_S1x1024x512_S1024x512 (wv m c (c + d) j) shapeCasts_S1x1024x512_S1024x512))
    unfold wv
    rw [shapeCast_shapeCast]
    rfl
  ihave Hd := e $$ Hd
  iapply (own_load c fullShare wM (rW a j) (fun _ => rfl) (wv m c (c + d) j)) $$ Hd
  iintro Hd
  iapply h
  unfold TileSt
  isplitr [HR]
  · isplitr; · iexact HP
    isplitl [HO]; · iexact HO
    isplitl [Hx]; · iexact Hx
    isplitr [Hv]
    · iapply Hcs
      isplitl [Hd]; · iexists _; iexact Hd
      isplitl [Hs] <;> iassumption
    iexact Hv
  iexact HR

/-- The row block tile `c + d` is stored to, loaded first for nothing, then stored. -/
theorem st_store (c : Dev nD) (d : Fin 16) {s w n : ℕ} (hn : d = Fin.ofNat 16 n + 1) (hn' : n < 16)
    {o : Fin 2 → ℕ} (ho : o = ![256 * (c + d).val, 0]) {io io' : ∀ i, o i + S256x512.size i ≤ S4096x512.size i}
    {hl : oM.view.LoadsAt (Rect.unit (s := S4096x512) o S256x512.size io).toLoadRect}
    {hx : (oM.access (Rect.unit (s := S4096x512) o S256x512.size io')).Stores Finset.univ} {hm}
    {y : S256x512.Idx → Elt F .f32} (hy : y = yv m c (c + d))
    {α : Type} {Q : α → sProp 𝕄} {kk : PUnit → Prog (TpuEff nD τ sig (Elt F) Λ₀ .tc) α} {R : sProp 𝕄}
    (h : iprop(TileSt m K c s w (n + 1) ∗ R) ⊢ WP c (kk ⟨⟩) Q) :
    iprop(TileSt m K c s w n ∗ R)
      ⊢ WP c (.op (.load oM (Rect.unit (s := S4096x512) o S256x512.size io).toLoadRect hl) fun _ =>
          .op (.store oM (Rect.unit (s := S4096x512) o S256x512.size io') y Finset.univ hx hm) kk) Q := by
  subst ho hy
  unfold TileSt OutSt
  iintro ⟨⟨#HP, HO, Hx, Hc, ⟨%v, %hv, Hv⟩⟩, HR⟩
  ihave Hv := (Entails.of_eq (big_erase (Finset.mem_univ (c + d : Fin 16)) (Φ := fun t : Fin 16 => Own c (oSl t) fullShare (v t)))) $$ Hv
  icases Hv with ⟨H, Hv⟩
  iapply (own_load c fullShare oM (rO (c + d)) (fun _ => rfl) (v (c + d))) $$ H
  iintro H
  iapply (own_store c oM (rO (c + d)) (fun _ => rfl) (v (c + d)) (yv m c (c + d))) $$ H
  iintro H
  iapply h
  unfold TileSt OutSt
  isplitr [HR]
  · isplitr; · iexact HP
    isplitl [HO]; · iexact HO
    isplitl [Hx]; · iexact Hx
    isplitl [Hc]; · iexact Hc
    iexists (Function.update v (c + d) (yv m c (c + d)))
    isplitr
    · ipureintro
      intro x hx
      by_cases he : c + (x + 1) = c + d
      · rw [he]; exact Function.update_self _ _ _
      · rw [Function.update_of_ne he]
        refine hv x ?_
        refine lt_of_le_of_ne (Nat.lt_succ_iff.mp hx) fun hxn => he ?_
        rw [hn]
        congr 2
        apply Fin.ext
        rw [hxn]
        exact (Nat.mod_eq_of_lt hn').symm
    · iapply (Entails.of_eq (big_erase (Finset.mem_univ (c + d : Fin 16)) (Φ := fun t : Fin 16 => Own c (oSl t) fullShare (Function.update v (c + d) (yv m c (c + d)) t))).symm)
      isplitl [H]
      · rw [Function.update_self]; iexact H
      iapply (big_mono (s := Finset.univ.erase (c + d : Fin 16)) (fun t ht => Entails.of_eq (by rw [Function.update_of_ne (Finset.ne_of_mem_erase ht)]))) $$ Hv
  iexact HR

/-- Slot `a`'s four chunks are free, and the next four copies are of tile `d` to them. -/
def FlStart (s w : ℕ) (a : Fin 3) (d : Fin 16) : Prop :=
  ∀ i : Fin 4, fl (s + i.val) w (a, i) = none ∧ fl (s + i.val + 1) w (a, i) = some d ∧ ∀ q, q ≠ (a, i) → fl (s + i.val) w q = fl (s + i.val + 1) w q
/-- The next four waits are for slot `a`'s four chunks, which hold tile `d`. -/
def FlTile (s w : ℕ) (a : Fin 3) (d : Fin 16) : Prop :=
  ∀ i : Fin 4, fl s (w + i.val) (a, i) = some d ∧ fl s (w + i.val + 1) (a, i) = none ∧ ∀ q, q ≠ (a, i) → fl s (w + i.val) q = fl s (w + i.val + 1) q
instance (s w : ℕ) (a : Fin 3) (d : Fin 16) : Decidable (FlStart s w a d) := by unfold FlStart; infer_instance
instance (s w : ℕ) (a : Fin 3) (d : Fin 16) : Decidable (FlTile s w a d) := by unfold FlTile; infer_instance

/-- The window of the weights a copy reads, at the offset the program computes. -/
abbrev gAt (o : Fin 2 → ℕ) (inb : ∀ i, o i + S1024x512.size i ≤ S4096x8192.size i) : Memref sig .tc .hbm S1024x512 .f32 :=
  gM.slice (Rect.unit (s := S4096x8192) o S1024x512.size inb) (fun _ => rfl)

/-- The tile `x` in the order they are taken, and the slot of the buffer it goes to. -/
abbrev dOf (x : ℕ) : Fin 16 := Fin.ofNat 16 x + 1
abbrev aOf (x : ℕ) : Fin 3 := Fin.ofNat 3 x

/-- The state between tiles: `x` tiles' copies started, `n` tiles done. -/
abbrev TS (c : Dev nD) (x n : ℕ) : sProp 𝕄 := TileSt m K c (4 * x) (4 * n) n

/-- The four copies of a tile started. -/
theorem st_start4 (c : Dev nD) {x n : ℕ} {o0 o1 o2 o3 : Fin 2 → ℕ}
    (ho0 : o0 = ![1024 * (0 : Fin 4).val, 512 * (c + dOf x).val]) (ho1 : o1 = ![1024 * (1 : Fin 4).val, 512 * (c + dOf x).val])
    (ho2 : o2 = ![1024 * (2 : Fin 4).val, 512 * (c + dOf x).val]) (ho3 : o3 = ![1024 * (3 : Fin 4).val, 512 * (c + dOf x).val])
    {s0 s1 s2 s3 : DmaSem sig} (hs : s0 = wS (aOf x) 0 ∧ s1 = wS (aOf x) 1 ∧ s2 = wS (aOf x) 2 ∧ s3 = wS (aOf x) 3)
    (hf : FlStart (4 * x) (4 * n) (aOf x) (dOf x))
    {i0 i1 i2 i3} {a0 b0 c0 a1 b1 c1 a2 b2 c2 a3 b3 c3}
    {α : Type} {Q : α → sProp 𝕄} {kk : PUnit → Prog (TpuEff nD τ sig (Elt F) Λ₀ .tc) α} {R : sProp 𝕄}
    (h : iprop(TS m K c (x + 1) n ∗ R) ⊢ WP c (kk ⟨⟩) Q) :
    iprop(TS m K c x n ∗ R)
      ⊢ WP c (.op (.enqueueDma (gAt o0 i0) (.here (wSq (aOf x) 0)) (.dma s0) a0 b0 c0) fun _ =>
          .op (.enqueueDma (gAt o1 i1) (.here (wSq (aOf x) 1)) (.dma s1) a1 b1 c1) fun _ =>
          .op (.enqueueDma (gAt o2 i2) (.here (wSq (aOf x) 2)) (.dma s2) a2 b2 c2) fun _ =>
          .op (.enqueueDma (gAt o3 i3) (.here (wSq (aOf x) 3)) (.dma s3) a3 b3 c3) kk) Q := by
  obtain ⟨h0, h1, h2, h3⟩ := hs
  refine st_start m K c (aOf x) 0 (dOf x) ho0 h0 (hf 0).1 (hf 0).2.1 (hf 0).2.2 ?_
  refine st_start m K c (aOf x) 1 (dOf x) ho1 h1 (hf 1).1 (hf 1).2.1 (hf 1).2.2 ?_
  refine st_start m K c (aOf x) 2 (dOf x) ho2 h2 (hf 2).1 (hf 2).2.1 (hf 2).2.2 ?_
  exact st_start m K c (aOf x) 3 (dOf x) ho3 h3 (hf 3).1 (hf 3).2.1 (hf 3).2.2 h

abbrev xAt (o : Fin 2 → ℕ) (i : ∀ i, o i + S256x1024.size i ≤ S256x4096.size i) : LoadRect S256x4096 := (Rect.unit (s := S256x4096) o S256x1024.size i).toLoadRect
abbrev wAt (o : Fin 3 → ℕ) (i : ∀ i, o i + S1x1024x512.size i ≤ S3x4096x512.size i) : LoadRect S3x4096x512 := (Rect.unit (s := S3x4096x512) o S1x1024x512.size i).toLoadRect

/-- A tile's copies waited for and its operands loaded, chunk by chunk, and its product stored. -/
theorem st_tile (c : Dev nD) {x n : ℕ} {s0 s1 s2 s3 : DmaSem sig} (hs : s0 = wS (aOf n) 0 ∧ s1 = wS (aOf n) 1 ∧ s2 = wS (aOf n) 2 ∧ s3 = wS (aOf n) 3)
    (hf : FlTile (4 * x) (4 * n) (aOf n) (dOf n)) (hn' : n < 16)
    {p0 p1 p2 p3 : Space} {z0 z1 z2 z3 : Shape} {e0 e1 e2 e3 : EltTy} {m0 : Memref sig .tc p0 z0 e0} {m1 : Memref sig .tc p1 z1 e1} {m2 : Memref sig .tc p2 z2 e2} {m3 : Memref sig .tc p3 z3 e3}
    {a0 b0 a1 b1 a2 b2 a3 b3} {ix0 ix1 ix2 ix3 lx0 lx1 lx2 lx3}
    {ow0 ow1 ow2 ow3 : Fin 3 → ℕ}
    (how : ow0 = ![(aOf n).val, 1024 * (0 : Fin 4).val, 0] ∧ ow1 = ![(aOf n).val, 1024 * (1 : Fin 4).val, 0] ∧ ow2 = ![(aOf n).val, 1024 * (2 : Fin 4).val, 0] ∧ ow3 = ![(aOf n).val, 1024 * (3 : Fin 4).val, 0])
    {iw0 iw1 iw2 iw3 lw0 lw1 lw2 lw3}
    {o : Fin 2 → ℕ} (ho : o = ![256 * (c + dOf n).val, 0]) {io io' : ∀ i, o i + S256x512.size i ≤ S4096x512.size i}
    {hl : oM.view.LoadsAt (Rect.unit (s := S4096x512) o S256x512.size io).toLoadRect}
    {hx : (oM.access (Rect.unit (s := S4096x512) o S256x512.size io')).Stores Finset.univ} {hm}
    {y : (S256x1024.Idx → Elt F .f32) → (S1x1024x512.Idx → Elt F .f32) → (S256x1024.Idx → Elt F .f32) → (S1x1024x512.Idx → Elt F .f32) →
      (S256x1024.Idx → Elt F .f32) → (S1x1024x512.Idx → Elt F .f32) → (S256x1024.Idx → Elt F .f32) → (S1x1024x512.Idx → Elt F .f32) → (S256x512.Idx → Elt F .f32)}
    (hy : ∀ x0 w0 x1 w1 x2 w2 x3 w3, y x0 w0 x1 w1 x2 w2 x3 w3 = k0_pay3 (k0_pay1 x0 w0 x1 w1) (k0_pay2 x2) w2 x3 w3)
    {α : Type} {Q : α → sProp 𝕄}
    {kk : (S256x1024.Idx → Elt F .f32) → (S1x1024x512.Idx → Elt F .f32) → (S256x1024.Idx → Elt F .f32) → (S1x1024x512.Idx → Elt F .f32) →
      (S256x1024.Idx → Elt F .f32) → (S1x1024x512.Idx → Elt F .f32) → (S256x1024.Idx → Elt F .f32) → (S1x1024x512.Idx → Elt F .f32) → PUnit → Prog (TpuEff nD τ sig (Elt F) Λ₀ .tc) α} {R : sProp 𝕄}
    (h : iprop(TS m K c x (n + 1) ∗ R)
      ⊢ WP c (kk (xv m c 0) (wv m c (c + dOf n) 0) (xv m c 1) (wv m c (c + dOf n) 1) (xv m c 2) (wv m c (c + dOf n) 2) (xv m c 3) (wv m c (c + dOf n) 3) ⟨⟩) Q) :
    iprop(TS m K c x n ∗ R)
      ⊢ WP c (.op (.waitDma2 s0 m0 (wSq (aOf n) 0) a0 b0) fun _ => .op (.load xM (xAt ![0, 0] ix0) lx0) fun x0 => .op (.load wM (wAt ow0 iw0) lw0) fun w0 =>
          .op (.waitDma2 s1 m1 (wSq (aOf n) 1) a1 b1) fun _ => .op (.load xM (xAt ![0, 1024] ix1) lx1) fun x1 => .op (.load wM (wAt ow1 iw1) lw1) fun w1 =>
          .op (.waitDma2 s2 m2 (wSq (aOf n) 2) a2 b2) fun _ => .op (.load xM (xAt ![0, 2048] ix2) lx2) fun x2 => .op (.load wM (wAt ow2 iw2) lw2) fun w2 =>
          .op (.waitDma2 s3 m3 (wSq (aOf n) 3) a3 b3) fun _ => .op (.load xM (xAt ![0, 3072] ix3) lx3) fun x3 => .op (.load wM (wAt ow3 iw3) lw3) fun w3 =>
          .op (.load oM (Rect.unit (s := S4096x512) o S256x512.size io).toLoadRect hl) fun _ =>
          .op (.store oM (Rect.unit (s := S4096x512) o S256x512.size io') (y x0 w0 x1 w1 x2 w2 x3 w3) Finset.univ hx hm) (kk x0 w0 x1 w1 x2 w2 x3 w3)) Q := by
  obtain ⟨h0, h1, h2, h3⟩ := hs
  obtain ⟨g0, g1, g2, g3⟩ := how
  refine st_chunk m K c (aOf n) 0 (dOf n) h0 (hf 0).1 (hf 0).2.1 (hf 0).2.2 rfl g0 ?_
  refine st_chunk m K c (aOf n) 1 (dOf n) h1 (hf 1).1 (hf 1).2.1 (hf 1).2.2 rfl g1 ?_
  refine st_chunk m K c (aOf n) 2 (dOf n) h2 (hf 2).1 (hf 2).2.1 (hf 2).2.2 rfl g2 ?_
  refine st_chunk m K c (aOf n) 3 (dOf n) h3 (hf 3).1 (hf 3).2.1 (hf 3).2.2 rfl g3 ?_
  exact st_store m K c (dOf n) rfl hn' ho (hy _ _ _ _ _ _ _ _) h

end Cert.KernelProof
-- ==== Proof.Xch.lean ====
/-
Steps of the kernel's later phases: the maxima sent and received, the blocks quantised and sent, received and rescaled,
and the waits for the sends.
-/
module

public import proofs.«01_k».proof.Proof.Tile

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

abbrev dO (k : ℕ) : Fin 16 := Fin.ofNat 16 k
/-- A distance below sixteen keeps its value. -/
theorem dO_val {k : ℕ} (hk : k < 16) : (dO k).val = k := Nat.mod_eq_of_lt hk
/-- A distance from one on is not zero. -/
theorem dO_ne {k : ℕ} (hk : k < 16) (h1 : 1 ≤ k) : dO k ≠ 0 := fun h => by
  have := congrArg Fin.val h; rw [dO_val hk] at this; change k = 0 at this; omega

omit [FloatOps F] in
/-- A squeezed slot owned at some contents. -/
theorem ownE_squeeze (c : Dev nD) {sp : Space} {s : Shape} {e : EltTy} (mr : Memref sig .tc sp s e) (s' : Shape) (hq : s.Squeezes s') (hc : s.ShapeCasts s') :
    (OwnE c mr : sProp 𝕄) ⊢ OwnE c (mr.squeeze s' hq) := by
  iintro ⟨%X, H⟩
  iexists (shapeCast s' X hc)
  iapply (Entails.of_eq (own_squeeze c mr fullShare s' hq X hc).symm) $$ H

omit [FloatOps F] in
/-- A slot owned in full lends its share 0. -/
theorem own_lend (c : Dev nD) {sp : Space} {s : Shape} {e : EltTy} (mr : Memref sig .tc sp s e) (X : s.Idx → Elt F e) :
    (Own c mr fullShare X : sProp 𝕄) ⊢ iprop(Own c mr (sh 0) X ∗ (Own c mr (sh 0) X -∗ Own c mr fullShare X)) := by
  iintro H
  ihave H := (own_shares c mr X) $$ H
  ihave H := (Entails.of_eq (big_erase (Finset.mem_univ (0 : Fin 16)) (Φ := fun d : Fin 16 => Own c mr (sh d) X))) $$ H
  icases H with ⟨H0, H⟩
  isplitl [H0]; · iexact H0
  iintro H0
  iapply (own_unshares c mr X)
  iapply (Entails.of_eq (big_erase (Finset.mem_univ (0 : Fin 16)) (Φ := fun d : Fin 16 => Own c mr (sh d) X)).symm)
  isplitl [H0] <;> iassumption

/-! ## The maxima -/

/-- Device `c`'s maximum in every lane of a slot. -/
abbrev mx (c : Dev nD) : S1x1x128.Idx → Elt F .f32 := k0_pay65 (macc m c)

/-- Slot 0 of the maxima loaded for nothing, then the device's maximum stored there. -/
theorem st_pub (c : Dev nD) {i i' : ∀ a, (![0, 0, 0] : Fin 3 → ℕ) a + S1x1x128.size a ≤ S16x1x128.size a}
    {hl : mM.view.LoadsAt (Rect.unit (s := S16x1x128) ![0, 0, 0] S1x1x128.size i).toLoadRect}
    {hx : (mM.access (Rect.unit (s := S16x1x128) ![0, 0, 0] S1x1x128.size i')).Stores Finset.univ} {hm}
    {y : S1x1x128.Idx → Elt F .f32} (hy : y = mx m c)
    {α : Type} {Q : α → sProp 𝕄} {kk : PUnit → Prog (TpuEff nD τ sig (Elt F) Λ₀ .tc) α} {R : sProp 𝕄}
    (h : iprop(Own c (mSl 0) fullShare (mx m c) ∗ R) ⊢ WP c (kk ⟨⟩) Q) :
    iprop(OwnE c (mSl 0) ∗ R)
      ⊢ WP c (.op (.load mM (Rect.unit (s := S16x1x128) ![0, 0, 0] S1x1x128.size i).toLoadRect hl) fun _ =>
          .op (.store mM (Rect.unit (s := S16x1x128) ![0, 0, 0] S1x1x128.size i') y Finset.univ hx hm) kk) Q := by
  subst hy
  iintro ⟨⟨%Y, H⟩, HR⟩
  iapply (own_load c fullShare mM (rMx 0) (fun _ => rfl) Y) $$ H
  iintro H
  iapply (own_store c mM (rMx 0) (fun _ => rfl) Y (mx m c)) $$ H
  iintro H
  iapply h
  isplitl [H] <;> iassumption

/-- What device `c` needs to send its maximum to device `c + d`, and what it has afterwards. -/
def mA (c : Dev nD) (d : Fin 16) : sProp 𝕄 :=
  iprop(Own c (mSl 0) (sh d) (mx m c) ∗ OwnE (c + d) (mSl d) ∗ dutyTok ER (xCell 2 c d) 0 0 ∗ dutyTok ER (xCell 3 (c + d) d) 0 0)
def mB (c : Dev nD) (d : Fin 16) : sProp 𝕄 := cred (tallyAt (xCell 2 c d) () Nm)
def MSt (c : Dev nD) (k : ℕ) : sProp 𝕄 := iprop(PP m K ∗ OW c (OQ c 1 + OM c k) ∗ Seq (mA m c) (mB c) k)

/-- A device sends its maximum to another. -/
theorem st_msend (c n : Dev nD) {k : ℕ} (hk : k < 16) (h1 : 1 ≤ k) (hn : n = c + dO k) {s2 s3 : DmaSem sig} (hs2 : s2 = xS 2 (dO k)) (hs3 : s3 = xS 3 (dO k))
    {hsc hx1 hx2 hx3}
    {α : Type} {Q : α → sProp 𝕄} {kk : PUnit → Prog (TpuEff nD τ sig (Elt F) Λ₀ .tc) α} {R : sProp 𝕄}
    (h : iprop(MSt m K c (k + 1) ∗ R) ⊢ WP c (kk ⟨⟩) Q) :
    iprop(MSt m K c k ∗ R)
      ⊢ WP c (.op (.enqueueDma (mSq 0) (.remote (n : Thread nD τ) (mSq (dO k)) (.dma s2) hsc) (.dma s3) hx1 hx2 hx3) kk) Q := by
  subst hn hs2 hs3
  have hd := dO_val hk
  have hd0 := dO_ne hk h1
  have hob : OQ c 1 + OM c k = OQ c 1 + OM c (k + 1) + tallyAt (xCell 3 (c + (dO k)) (dO k)) () Nm :=
    (congrArg (fun x => OQ c 1 + x) (tail_adv (dueM c) (dO k) hd)).trans (add_assoc _ _ _).symm
  unfold MSt
  iintro ⟨⟨#HP, HO, HS⟩, HR⟩
  ihave HS := (Seq_adv (A := mA m c) (B := mB c) (dO k) hd h1) $$ HS
  icases HS with ⟨HA, HS⟩
  unfold mA
  icases HA with ⟨Hs, Hd, Ht, Ht'⟩
  ihave Hd := (ownE_squeeze (c + (dO k)) (mSl (dO k)) S1x128 squeezes_S1x1x128_S1x128 shapeCasts_S1x1x128_S1x128) $$ Hd
  ihave Hs := (Entails.of_eq (own_squeeze c (mSl 0) (sh (dO k)) S1x128 squeezes_S1x1x128_S1x128 (mx m c) shapeCasts_S1x1x128_S1x128).symm) $$ Hs
  iapply (own_send m K c (c + (dO k)) (mSq 0) (mSq (dO k)) (sh (dO k)) (shapeCast S1x128 (mx m c) shapeCasts_S1x1x128_S1x128) 2 3 (dO k) hd0 Nm rfl rfl rfl (OQ c 1 + OM c (k + 1)) hob
    (Entails.of_eq (own_squeeze c (mSl 0) (sh (dO k)) S1x128 squeezes_S1x1x128_S1x128 (mx m c) shapeCasts_S1x1x128_S1x128))
    ((Entails.of_eq (own_squeeze (c + (dO k)) (mSl (dO k)) fullShare S1x128 squeezes_S1x1x128_S1x128 (mx m c) shapeCasts_S1x1x128_S1x128)).trans
      (Entails.of_eq (by unfold payX; dsimp only; rw [add_sub c (dO k)])))) $$ [HO Hs Hd Ht Ht']
  · isplitr; · iexact HP
    isplitl [Hs]; · iexact Hs
    isplitl [Hd]; · iexact Hd
    isplitl [HO]; · iexact HO
    isplitl [Ht] <;> iassumption
  iintro ⟨Hc, HO⟩
  iapply h
  unfold MSt
  isplitr [HR]
  · isplitr; · iexact HP
    isplitl [HO]; · iexact HO
    iapply HS
    unfold mB; iexact Hc
  iexact HR

def nA (c : Dev nD) (d : Fin 16) : sProp 𝕄 := iprop(cred (tallyAt (xCell 3 c d) () Nm) ∗ atPos ER (xCell 3 c d) 0 ∅ 0)
def nB (c : Dev nD) (d : Fin 16) : sProp 𝕄 := iprop(Own c (mSl d) fullShare (mx m (c - d)) ∗ atPos ER (xCell 3 c d) 1 ∅ 0)
def NSt (c : Dev nD) (k : ℕ) : sProp 𝕄 := iprop(PP m K ∗ OW c (OQ c 1) ∗ Seq (nA c) (nB m c) k)

/-- The wait for the maximum of device `c - k`. -/
theorem st_mrecv (c : Dev nD) {k : ℕ} (hk : k < 16) (h1 : 1 ≤ k) {s3 : DmaSem sig} (hs3 : s3 = xS 3 (dO k))
    {sp : Space} {ss : Shape} {ee : EltTy} {srcw : Memref sig .tc sp ss ee} {hx1 : srcw.view.WordExact} {hx2 : (mSq (dO k)).view.WordExact}
    {α : Type} {Q : α → sProp 𝕄} {kk : PUnit → Prog (TpuEff nD τ sig (Elt F) Λ₀ .tc) α} {R : sProp 𝕄}
    (h : iprop(NSt m K c (k + 1) ∗ R) ⊢ WP c (kk ⟨⟩) Q) :
    iprop(NSt m K c k ∗ R) ⊢ WP c (.op (.waitDma2 s3 srcw (mSq (dO k)) hx1 hx2) kk) Q := by
  subst hs3
  have hd := dO_val hk
  have hd0 := dO_ne hk h1
  unfold NSt
  iintro ⟨⟨#HP, HO, HS⟩, HR⟩
  ihave HS := (Seq_adv (A := nA c) (B := nB m c) (dO k) hd h1) $$ HS
  icases HS with ⟨HA, HS⟩
  unfold nA
  icases HA with ⟨Hc, Hat⟩
  iapply (own_recv m K c srcw (mSq (dO k)) 3 (dO k) hd0 Nm rfl rfl (OQ c 1) 2 (le_of_eq (lv_x3 c (dO k))) (above_Q c 1 2 (by decide))) $$ [HO Hc Hat]
  · isplitr; · iexact HP
    isplitl [Hc]; · iexact Hc
    isplitl [HO] <;> iassumption
  iintro ⟨Hp, HO, Hat⟩
  iapply h
  unfold NSt
  isplitr [HR]
  · isplitr; · iexact HP
    isplitl [HO]; · iexact HO
    iapply HS
    unfold nB payX
    isplitl [Hp] <;> iassumption
  iexact HR

/-- Subtracting the distance zero. -/
theorem sub_zero' (c : Fin 16) : c - 0 = c := by revert c; decide

/-- Each received maximum is the matching part of the gathered ones. -/
theorem mx_allM (c : Dev nD) (d : Fin 16) : mx m (c - d) = fun j => allM m c ((rMx d).emb j) := by
  funext j
  show macc m (c - d) = macc m (c - _)
  congr 2
  apply Fin.ext
  show d.val = d.val + 1 * (j 0).val
  have : (j 0).val < 1 := (j 0).isLt
  omega

/-- The places for maxima are disjoint. -/
theorem rMx_disj (d d' : Fin 16) (h : d ≠ d') : Disjoint (rMx d).set (rMx d').set := by
  refine Rect.unit_disjoint 0 ?_
  show d.val + 1 ≤ d'.val ∨ d'.val + 1 ≤ d.val
  have : d.val ≠ d'.val := fun e => h (Fin.ext e)
  omega
/-- The places for maxima cover their buffer. -/
theorem rMx_cov : (Finset.univ : Finset (Fin 16)).biUnion (fun t => (rMx t).set) = Finset.univ := by
  refine Finset.eq_univ_iff_forall.mpr fun i => Finset.mem_biUnion.mpr ⟨⟨(i 0).val, (i 0).isLt⟩, Finset.mem_univ _, Rect.mem_set_unit.mpr fun a => ?_⟩
  fin_cases a
  · exact ⟨le_rfl, Nat.lt_succ_self _⟩
  · exact ⟨Nat.zero_le _, by have := (i 1).isLt; simpa using this⟩
  · exact ⟨Nat.zero_le _, by have := (i 2).isLt; simpa using this⟩

/-- All sixteen slots of maxima at share 0 are the whole array at share 0, and back. -/
theorem all_mx (c : Dev nD) : (bigSep Finset.univ fun d : Fin 16 => Own c (mSl d) (sh 0) (mx m (c - d)) : sProp 𝕄) = Own c mM (sh 0) (allM m c) := by
  have e : (bigSep Finset.univ fun d : Fin 16 => Own c (mSl d) (sh 0) (mx m (c - d)) : sProp 𝕄)
      = bigSep Finset.univ fun d : Fin 16 => Own c (mSl d) (sh 0) (fun j => allM m c ((rMx d).emb j)) :=
    bigSep_congr fun d _ => congrArg (Own c (mSl d) (sh 0)) (mx_allM m c d)
  rw [e]
  exact BI.equiv_iff.mp ⟨owns_of_rects (c : Thread nD τ) mM (sh 0) rMx (fun _ _ => rfl) rMx_disj rMx_cov (allM m c),
    owns_rects (c : Thread nD τ) mM (sh 0) rMx (fun _ _ => rfl) rMx_disj rMx_cov (allM m c)⟩

/-- The whole array of maxima loaded. -/
theorem st_mload (c : Dev nD) {o : Fin 3 → ℕ} (ho : o = ![0, 0, 0]) {i : ∀ a, o a + S16x1x128.size a ≤ S16x1x128.size a}
    {hl : mM.view.LoadsAt (Rect.unit (s := S16x1x128) o S16x1x128.size i).toLoadRect}
    {α : Type} {Q : α → sProp 𝕄} {kk : (S16x1x128.Idx → Elt F .f32) → Prog (TpuEff nD τ sig (Elt F) Λ₀ .tc) α} {R : sProp 𝕄}
    (h : iprop(Own c (mSl 0) (sh 0) (mx m c) ∗ (bigSep nz fun d : Fin 16 => Own c (mSl d) fullShare (mx m (c - d))) ∗ R) ⊢ WP c (kk (allM m c)) Q) :
    iprop(Own c (mSl 0) (sh 0) (mx m c) ∗ (bigSep nz fun d : Fin 16 => Own c (mSl d) fullShare (mx m (c - d))) ∗ R)
      ⊢ WP c (.op (.load mM (Rect.unit (s := S16x1x128) o S16x1x128.size i).toLoadRect hl) kk) Q := by
  subst ho
  have e0 : mx m (c - 0) = mx m c := by rw [sub_zero' c]
  have lend : (bigSep nz fun d : Fin 16 => Own c (mSl d) fullShare (mx m (c - d)) : sProp 𝕄)
      ⊢ iprop((bigSep nz fun d : Fin 16 => Own c (mSl d) (sh 0) (mx m (c - d))) ∗ bigSep nz fun d : Fin 16 => iprop(Own c (mSl d) (sh 0) (mx m (c - d)) -∗ Own c (mSl d) fullShare (mx m (c - d)))) :=
    (big_mono fun d _ => own_lend c (mSl d) (mx m (c - d))).trans (Entails.of_eq (bigSep_sep' _ _ _))
  have back : iprop((bigSep nz fun d : Fin 16 => Own c (mSl d) (sh 0) (mx m (c - d))) ∗ bigSep nz fun d : Fin 16 => iprop(Own c (mSl d) (sh 0) (mx m (c - d)) -∗ Own c (mSl d) fullShare (mx m (c - d))))
      ⊢ (bigSep nz fun d : Fin 16 => Own c (mSl d) fullShare (mx m (c - d)) : sProp 𝕄) :=
    (Entails.of_eq (bigSep_sep' _ _ _).symm).trans (big_mono fun d _ => by iintro ⟨H, Hb⟩; iapply Hb $$ H)
  have split : (Own c mM (sh 0) (allM m c) : sProp 𝕄) = iprop(Own c (mSl 0) (sh 0) (mx m c) ∗ bigSep nz fun d : Fin 16 => Own c (mSl d) (sh 0) (mx m (c - d))) := by
    rw [← all_mx, big_erase (Finset.mem_univ (0 : Fin 16)), e0]
  have eX : (fun j => allM m c ((Rect.unit (s := S16x1x128) ![0, 0, 0] S16x1x128.size i).toLoadRect.idx j)) = allM m c := by
    funext j
    congr 1
    funext a
    apply Fin.ext
    show (![0, 0, 0] : Fin 3 → ℕ) a + 1 * (j a).val = (j a).val
    have : (![0, 0, 0] : Fin 3 → ℕ) a = 0 := by fin_cases a <;> rfl
    omega
  iintro ⟨H0, Hs, HR⟩
  ihave Hs := lend $$ Hs
  icases Hs with ⟨Hs, Hb⟩
  ihave H := (Entails.of_eq split.symm) $$ [H0 Hs]
  · isplitl [H0] <;> iassumption
  iapply (own_load_sub c (sh 0) mM (Rect.unit (s := S16x1x128) ![0, 0, 0] S16x1x128.size i).toLoadRect (allM m c)) $$ H
  iintro H
  rw [eX]
  ihave H := (Entails.of_eq split) $$ H
  icases H with ⟨H0, Hs⟩
  iapply h
  isplitl [H0]; · iexact H0
  isplitl [Hs Hb]
  · iapply back; isplitl [Hs] <;> iassumption
  iexact HR

end Cert.KernelProof
-- ==== Proof.Quant.lean ====
/-
Steps of the kernel's last phases: the blocks quantised and sent, the device's own block rescaled, the other devices'
blocks received and rescaled, and the waits for what was sent.
-/
module

public import proofs.«01_k».proof.Proof.Xch

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## Blocks quantised and sent -/

def qA (c : Dev nD) (d : Fin 16) : sProp 𝕄 :=
  iprop(OwnE c (sSl d) ∗ OwnE (c + d) (rSl d) ∗ dutyTok ER (xCell 0 c d) 0 0 ∗ dutyTok ER (xCell 1 (c + d) d) 0 0)
def qB (c : Dev nD) (d : Fin 16) : sProp 𝕄 := cred (tallyAt (xCell 0 c d) () Nq)
/-- Before block `k` is quantised: the row blocks hold the product's tiles. -/
def QSt (c : Dev nD) (k : ℕ) : sProp 𝕄 :=
  iprop(PP m K ∗ OW c (OQ c k) ∗ (bigSep Finset.univ fun t : Fin 16 => Own c (oSl t) fullShare (yv m c t)) ∗ Seq (qA c) (qB c) k)

/-- A tile is read, quantised, stored and sent. -/
theorem st_qsend (c n : Dev nD) {k : ℕ} (hk : k < 16) (h1 : 1 ≤ k) (hn : n = c + dO k) {s0 s1 : DmaSem sig} (hs0 : s0 = xS 0 (dO k)) (hs1 : s1 = xS 1 (dO k))
    {o : Fin 2 → ℕ} (ho : o = ![256 * (c + dO k).val, 0]) {io : ∀ i, o i + S256x512.size i ≤ S4096x512.size i}
    {hl : oM.view.LoadsAt (Rect.unit (s := S4096x512) o S256x512.size io).toLoadRect}
    {p : Fin 3 → ℕ} (hp : p = ![(dO k).val, 0, 0]) {ip ip' : ∀ i, p i + S1x256x512.size i ≤ S16x256x512.size i}
    {hlp : sM.view.LoadsAt (Rect.unit (s := S16x256x512) p S1x256x512.size ip).toLoadRect}
    {hx : (sM.access (Rect.unit (s := S16x256x512) p S1x256x512.size ip')).Stores Finset.univ} {hm}
    {y : (S256x512.Idx → Elt F .f32) → S1x256x512.Idx → Elt F .fp8e4m3} (hy : ∀ v, y v = k0_pay69 (inv m c) v)
    {hsc hx1 hx2 hx3}
    {α : Type} {Q : α → sProp 𝕄} {kk : (S256x512.Idx → Elt F .f32) → PUnit → Prog (TpuEff nD τ sig (Elt F) Λ₀ .tc) α} {R : sProp 𝕄}
    (h : iprop(QSt m K c (k + 1) ∗ R) ⊢ WP c (kk (yv m c (c + dO k)) ⟨⟩) Q) :
    iprop(QSt m K c k ∗ R)
      ⊢ WP c (.op (.load oM (Rect.unit (s := S4096x512) o S256x512.size io).toLoadRect hl) fun v =>
          .op (.load sM (Rect.unit (s := S16x256x512) p S1x256x512.size ip).toLoadRect hlp) fun _ =>
          .op (.store sM (Rect.unit (s := S16x256x512) p S1x256x512.size ip') (y v) Finset.univ hx hm) fun _ =>
          .op (.enqueueDma (sSq (dO k)) (.remote (n : Thread nD τ) (rSq (dO k)) (.dma s0) hsc) (.dma s1) hx1 hx2 hx3) (kk v)) Q := by
  subst hn hs0 hs1 ho hp
  have hd := dO_val hk
  have hd0 := dO_ne hk h1
  have hob : OQ c k = OQ c (k + 1) + tallyAt (xCell 1 (c + dO k) (dO k)) () Nq := tail_adv (dueQ c) (dO k) hd
  unfold QSt
  iintro ⟨⟨#HP, HO, Hv, HS⟩, HR⟩
  ihave HS := (Seq_adv (A := qA c) (B := qB c) (dO k) hd h1) $$ HS
  icases HS with ⟨HA, HS⟩
  unfold qA
  icases HA with ⟨⟨%Y, Hs⟩, Hd, Ht, Ht'⟩
  ihave Hv := (Entails.of_eq (big_erase (Finset.mem_univ (c + dO k : Fin 16)) (Φ := fun t : Fin 16 => Own c (oSl t) fullShare (yv m c t)))) $$ Hv
  icases Hv with ⟨H, Hv⟩
  iapply (own_load c fullShare oM (rO (c + dO k)) (fun _ => rfl) (yv m c (c + dO k))) $$ H
  iintro H
  iapply (own_load c fullShare sM (rQ (dO k)) (fun _ => rfl) Y) $$ Hs
  iintro Hs
  rw [hy]
  iapply (own_store c sM (rQ (dO k)) (fun _ => rfl) Y (qz m c (c + dO k))) $$ Hs
  iintro Hs
  ihave Hd := (ownE_squeeze (c + dO k) (rSl (dO k)) S256x512 squeezes_S1x256x512_S256x512 shapeCasts_S1x256x512_S256x512) $$ Hd
  ihave Hs := (Entails.of_eq (own_squeeze c (sSl (dO k)) fullShare S256x512 squeezes_S1x256x512_S256x512 (qz m c (c + dO k)) shapeCasts_S1x256x512_S256x512).symm) $$ Hs
  iapply (own_send m K c (c + dO k) (sSq (dO k)) (rSq (dO k)) fullShare (shapeCast S256x512 (qz m c (c + dO k)) shapeCasts_S1x256x512_S256x512) 0 1 (dO k) hd0 Nq rfl rfl rfl (OQ c (k + 1)) hob
    (Entails.of_eq (own_squeeze c (sSl (dO k)) fullShare S256x512 squeezes_S1x256x512_S256x512 (qz m c (c + dO k)) shapeCasts_S1x256x512_S256x512))
    ((Entails.of_eq (own_squeeze (c + dO k) (rSl (dO k)) fullShare S256x512 squeezes_S1x256x512_S256x512 (qz m c (c + dO k)) shapeCasts_S1x256x512_S256x512)).trans
      (Entails.of_eq (by unfold payX; dsimp only; rw [add_sub c (dO k)])))) $$ [HO Hs Hd Ht Ht']
  · isplitr; · iexact HP
    isplitl [Hs]; · iexact Hs
    isplitl [Hd]; · iexact Hd
    isplitl [HO]; · iexact HO
    isplitl [Ht] <;> iassumption
  iintro ⟨Hc, HO⟩
  iapply h
  unfold QSt
  isplitr [HR]
  · isplitr; · iexact HP
    isplitl [HO]; · iexact HO
    isplitl [H Hv]
    · iapply (Entails.of_eq (big_erase (Finset.mem_univ (c + dO k : Fin 16)) (Φ := fun t : Fin 16 => Own c (oSl t) fullShare (yv m c t))).symm)
      isplitl [H] <;> iassumption
    iapply HS
    unfold qB; iexact Hc
  iexact HR

/-! ## Blocks received and rescaled -/

/-- The row blocks of the result when the device's own and those from the distances below `k` are final. -/
def FinO (c : Dev nD) (k : ℕ) : sProp 𝕄 :=
  iprop(∃ v : Fin 16 → (S256x512.Idx → Elt F .f32), ⌜∀ d : Fin 16, d.val < k → v (c - d) = outv m c (c - d)⌝
    ∗ bigSep Finset.univ fun t : Fin 16 => Own c (oSl t) fullShare (v t))

/-- Only the distance zero leads back to the same device. -/
theorem sub_eq_self' {c d : Fin 16} : c - d = c → d = 0 := by revert c d; decide +kernel

/-- With one more block written, one more row block is final. -/
theorem FinO_set (c : Dev nD) {k : ℕ} (hk : k < 16) (v : Fin 16 → (S256x512.Idx → Elt F .f32)) (hv : ∀ d : Fin 16, d.val < k → v (c - d) = outv m c (c - d)) :
    iprop(Own c (oSl (c - dO k)) fullShare (outv m c (c - dO k)) ∗ bigSep (Finset.univ.erase (c - dO k : Fin 16)) fun t : Fin 16 => Own c (oSl t) fullShare (v t)) ⊢ FinO m c (k + 1) := by
  iintro ⟨H, Hv⟩
  unfold FinO
  iexists (Function.update v (c - dO k) (outv m c (c - dO k)))
  isplitr
  · ipureintro
    intro x hx
    by_cases he : c - x = c - dO k
    · rw [he]; exact Function.update_self _ _ _
    · rw [Function.update_of_ne he]
      refine hv x ?_
      refine lt_of_le_of_ne (Nat.lt_succ_iff.mp hx) fun hxn => he ?_
      rw [show x = dO k from Fin.ext (hxn.trans (dO_val hk).symm)]
  · iapply (Entails.of_eq (big_erase (Finset.mem_univ (c - dO k : Fin 16)) (Φ := fun t : Fin 16 => Own c (oSl t) fullShare (Function.update v (c - dO k) (outv m c (c - dO k)) t))).symm)
    isplitl [H]
    · rw [Function.update_self]; iexact H
    iapply (big_mono (s := Finset.univ.erase (c - dO k : Fin 16)) (fun t ht => Entails.of_eq (by rw [Function.update_of_ne (Finset.ne_of_mem_erase ht)]))) $$ Hv

/-- The device's own block, rescaled in place. -/
theorem st_own (c : Dev nD) {o : Fin 2 → ℕ} (ho : o = ![256 * (c - dO 0).val, 0]) {io io' io'' : ∀ i, o i + S256x512.size i ≤ S4096x512.size i}
    {hl : oM.view.LoadsAt (Rect.unit (s := S4096x512) o S256x512.size io).toLoadRect}
    {hl' : oM.view.LoadsAt (Rect.unit (s := S4096x512) o S256x512.size io').toLoadRect}
    {hx : (oM.access (Rect.unit (s := S4096x512) o S256x512.size io'')).Stores Finset.univ} {hm}
    {y : (S256x512.Idx → Elt F .f32) → S256x512.Idx → Elt F .f32} (hy : ∀ v, y v = k0_pay86 (inv m c) (scl m c) v)
    {α : Type} {Q : α → sProp 𝕄} {kk : (S256x512.Idx → Elt F .f32) → PUnit → Prog (TpuEff nD τ sig (Elt F) Λ₀ .tc) α} {R : sProp 𝕄}
    (h : iprop(FinO m c 1 ∗ R) ⊢ WP c (kk (yv m c (c - dO 0)) ⟨⟩) Q) :
    iprop((bigSep Finset.univ fun t : Fin 16 => Own c (oSl t) fullShare (yv m c t)) ∗ R)
      ⊢ WP c (.op (.load oM (Rect.unit (s := S4096x512) o S256x512.size io).toLoadRect hl) fun v =>
          .op (.load oM (Rect.unit (s := S4096x512) o S256x512.size io').toLoadRect hl') fun _ =>
          .op (.store oM (Rect.unit (s := S4096x512) o S256x512.size io'') (y v) Finset.univ hx hm) (kk v)) Q := by
  subst ho
  have hc : c - dO 0 = c := sub_zero' c
  have hov : outv m c (c - dO 0) = k0_pay86 (inv m c) (scl m c) (yv m c (c - dO 0)) := by
    unfold outv; rw [if_pos hc]; rw [hc]
  iintro ⟨Hv, HR⟩
  ihave Hv := (Entails.of_eq (big_erase (Finset.mem_univ (c - dO 0 : Fin 16)) (Φ := fun t : Fin 16 => Own c (oSl t) fullShare (yv m c t)))) $$ Hv
  icases Hv with ⟨H, Hv⟩
  iapply (own_load c fullShare oM (rO (c - dO 0)) (fun _ => rfl) (yv m c (c - dO 0))) $$ H
  iintro H
  iapply (own_load c fullShare oM (rO (c - dO 0)) (fun _ => rfl) (yv m c (c - dO 0))) $$ H
  iintro H
  rw [hy, ← hov]
  iapply (own_store c oM (rO (c - dO 0)) (fun _ => rfl) (yv m c (c - dO 0)) (outv m c (c - dO 0))) $$ H
  iintro H
  iapply h
  isplitr [HR]
  · iapply (FinO_set m c (k := 0) (by decide) (yv m c) (fun d hd => absurd hd (Nat.not_lt_zero _)))
    isplitl [H] <;> iassumption
  iexact HR

def gA (c : Dev nD) (d : Fin 16) : sProp 𝕄 := iprop(cred (tallyAt (xCell 1 c d) () Nq) ∗ atPos ER (xCell 1 c d) 0 ∅ 0)
def gB (c : Dev nD) (d : Fin 16) : sProp 𝕄 := iprop(Own c (rSl d) fullShare (qz m (c - d) c) ∗ atPos ER (xCell 1 c d) 1 ∅ 0)
def GSt (c : Dev nD) (k : ℕ) : sProp 𝕄 := iprop(PP m K ∗ OW c 0 ∗ FinO m c k ∗ Seq (gA c) (gB m c) k)

/-- A block is received, scaled and written. -/
theorem st_qrecv (c : Dev nD) {k : ℕ} (hk : k < 16) (h1 : 1 ≤ k) {s1 : DmaSem sig} (hs1 : s1 = xS 1 (dO k))
    {sp : Space} {ss : Shape} {ee : EltTy} {srcw : Memref sig .tc sp ss ee} {hx1 : srcw.view.WordExact} {hx2 : (rSq (dO k)).view.WordExact}
    {p : Fin 3 → ℕ} (hp : p = ![(dO k).val, 0, 0]) {ip : ∀ i, p i + S1x256x512.size i ≤ S16x256x512.size i}
    {hlp : rM.view.LoadsAt (Rect.unit (s := S16x256x512) p S1x256x512.size ip).toLoadRect}
    {o : Fin 2 → ℕ} (ho : o = ![256 * (c - dO k).val, 0]) {io io' : ∀ i, o i + S256x512.size i ≤ S4096x512.size i}
    {hl : oM.view.LoadsAt (Rect.unit (s := S4096x512) o S256x512.size io).toLoadRect}
    {hx : (oM.access (Rect.unit (s := S4096x512) o S256x512.size io')).Stores Finset.univ} {hm}
    {y : (S1x256x512.Idx → Elt F .fp8e4m3) → S256x512.Idx → Elt F .f32} (hy : ∀ v, y v = k0_pay87 (scl m c) v)
    {α : Type} {Q : α → sProp 𝕄} {kk : (S1x256x512.Idx → Elt F .fp8e4m3) → PUnit → Prog (TpuEff nD τ sig (Elt F) Λ₀ .tc) α} {R : sProp 𝕄}
    (h : iprop(GSt m K c (k + 1) ∗ R) ⊢ WP c (kk (qz m (c - dO k) c) ⟨⟩) Q) :
    iprop(GSt m K c k ∗ R)
      ⊢ WP c (.op (.waitDma2 s1 srcw (rSq (dO k)) hx1 hx2) fun _ =>
          .op (.load rM (Rect.unit (s := S16x256x512) p S1x256x512.size ip).toLoadRect hlp) fun v =>
          .op (.load oM (Rect.unit (s := S4096x512) o S256x512.size io).toLoadRect hl) fun _ =>
          .op (.store oM (Rect.unit (s := S4096x512) o S256x512.size io') (y v) Finset.univ hx hm) (kk v)) Q := by
  subst hs1 ho hp
  have hd := dO_val hk
  have hd0 := dO_ne hk h1
  have hov : outv m c (c - dO k) = k0_pay87 (scl m c) (qz m (c - dO k) c) := by
    unfold outv; rw [if_neg fun he => hd0 (sub_eq_self' he)]
  unfold GSt
  iintro ⟨⟨#HP, HO, HF, HS⟩, HR⟩
  ihave HS := (Seq_adv (A := gA c) (B := gB m c) (dO k) hd h1) $$ HS
  icases HS with ⟨HA, HS⟩
  unfold gA
  icases HA with ⟨Hc, Hat⟩
  iapply (own_recv m K c srcw (rSq (dO k)) 1 (dO k) hd0 Nq rfl rfl 0 3 (le_of_eq (lv_x1 c (dO k))) (above_zero 3)) $$ [HO Hc Hat]
  · isplitr; · iexact HP
    isplitl [Hc]; · iexact Hc
    isplitl [HO] <;> iassumption
  iintro ⟨Hp, HO, Hat⟩
  ihave Hp := (Entails.of_eq (show payX m c 1 (dO k) = Own c (rSl (dO k)) fullShare (qz m (c - dO k) c) from rfl)) $$ Hp
  iapply (own_load c fullShare rM (rQ (dO k)) (fun _ => rfl) (qz m (c - dO k) c)) $$ Hp
  iintro Hp
  unfold FinO
  icases HF with ⟨%v, %hv, HF⟩
  ihave HF := (Entails.of_eq (big_erase (Finset.mem_univ (c - dO k : Fin 16)) (Φ := fun t : Fin 16 => Own c (oSl t) fullShare (v t)))) $$ HF
  icases HF with ⟨H, HF⟩
  iapply (own_load c fullShare oM (rO (c - dO k)) (fun _ => rfl) (v (c - dO k))) $$ H
  iintro H
  rw [hy, ← hov]
  iapply (own_store c oM (rO (c - dO k)) (fun _ => rfl) (v (c - dO k)) (outv m c (c - dO k))) $$ H
  iintro H
  iapply h
  unfold GSt
  isplitr [HR]
  · isplitr; · iexact HP
    isplitl [HO]; · iexact HO
    isplitl [H HF]
    · iapply (FinO_set m c hk v hv)
      isplitl [H] <;> iassumption
    iapply HS
    unfold gB
    isplitl [Hp] <;> iassumption
  iexact HR

/-! ## The sends' ends -/

def eA (c : Dev nD) (d : Fin 16) : sProp 𝕄 :=
  iprop((cred (tallyAt (xCell 0 c d) () Nq) ∗ atPos ER (xCell 0 c d) 0 ∅ 0) ∗ (cred (tallyAt (xCell 2 c d) () Nm) ∗ atPos ER (xCell 2 c d) 0 ∅ 0))
def eB (c : Dev nD) (d : Fin 16) : sProp 𝕄 :=
  iprop((Own c (sSl d) fullShare (qz m c (c + d)) ∗ atPos ER (xCell 0 c d) 1 ∅ 0) ∗ (Own c (mSl 0) (sh d) (mx m c) ∗ atPos ER (xCell 2 c d) 1 ∅ 0))
def ESt (c : Dev nD) (k : ℕ) : sProp 𝕄 := iprop(PP m K ∗ OW c 0 ∗ Seq (eA c) (eB m c) k)

/-- The two sends of one distance are waited for. -/
theorem st_end (c : Dev nD) {k : ℕ} (hk : k < 16) (h1 : 1 ≤ k) {s0 s2 : DmaSem sig} (hs0 : s0 = xS 0 (dO k)) (hs2 : s2 = xS 2 (dO k))
    {sp sp' : Space} {ss ss' : Shape} {ee ee' : EltTy} {src : Memref sig .tc sp ss ee} {src' : Memref sig .tc sp' ss' ee'}
    {x1 x2 x3 x4}
    {α : Type} {Q : α → sProp 𝕄} {kk : PUnit → Prog (TpuEff nD τ sig (Elt F) Λ₀ .tc) α} {R : sProp 𝕄}
    (h : iprop(ESt m K c (k + 1) ∗ R) ⊢ WP c (kk ⟨⟩) Q) :
    iprop(ESt m K c k ∗ R) ⊢ WP c (.op (.waitDma2 s0 src (sSq (dO k)) x1 x2) fun _ => .op (.waitDma2 s2 src' (mSq 0) x3 x4) kk) Q := by
  subst hs0 hs2
  have hd := dO_val hk
  have hd0 := dO_ne hk h1
  unfold ESt
  iintro ⟨⟨#HP, HO, HS⟩, HR⟩
  ihave HS := (Seq_adv (A := eA c) (B := eB m c) (dO k) hd h1) $$ HS
  icases HS with ⟨HA, HS⟩
  unfold eA
  icases HA with ⟨⟨Hc, Hat⟩, ⟨Hc', Hat'⟩⟩
  iapply (own_recv m K c src (sSq (dO k)) 0 (dO k) hd0 Nq rfl rfl 0 0 (by unfold lv; rw [kd_x]) (above_zero 0)) $$ [HO Hc Hat]
  · isplitr; · iexact HP
    isplitl [Hc]; · iexact Hc
    isplitl [HO] <;> iassumption
  iintro ⟨Hp, HO, Hat⟩
  iapply (own_recv m K c src' (mSq 0) 2 (dO k) hd0 Nm rfl rfl 0 0 (by unfold lv; rw [kd_x]) (above_zero 0)) $$ [HO Hc' Hat']
  · isplitr; · iexact HP
    isplitl [Hc']; · iexact Hc'
    isplitl [HO] <;> iassumption
  iintro ⟨Hp', HO, Hat'⟩
  iapply h
  unfold ESt
  isplitr [HR]
  · isplitr; · iexact HP
    isplitl [HO]; · iexact HO
    iapply HS
    unfold eB payX
    isplitl [Hp Hat]
    · isplitl [Hp] <;> iassumption
    isplitl [Hp'] <;> iassumption
  iexact HR

end Cert.KernelProof
-- ==== Proof.Split.lean ====
/-
Arrays owned whole and owned by slots.
-/
module

public import proofs.«01_k».proof.Proof.Quant

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Slots

variable {T : Type} [Fintype T] [DecidableEq T] (c : Dev nD) {sp : Space} {s : Shape} {e : EltTy} (mr : Memref sig .tc sp s e)
  (r : T → Rect s) (hr : ∀ t a, (r t).stride a = 1) (hd : ∀ t t', t ≠ t' → Disjoint (r t).set (r t').set) (hcov : Finset.univ.biUnion (fun t => (r t).set) = Finset.univ)

include hd hcov in
omit [FloatOps F] in
/-- Contents given slot by slot are contents of the whole. -/
theorem glue (Y : ∀ t, (r t).shape.Idx → Elt F e) : ∃ X : s.Idx → Elt F e, ∀ t j, X ((r t).emb j) = Y t j := by
  have h : ∀ i : s.Idx, ∃ p : (t : T) × (r t).shape.Idx, (r p.1).emb p.2 = i := fun i => by
    obtain ⟨t, -, hi⟩ := Finset.mem_biUnion.mp (hcov.symm ▸ Finset.mem_univ i)
    obtain ⟨j, -, hj⟩ := Finset.mem_map.mp ((r t).map_emb_univ ▸ hi)
    exact ⟨⟨t, j⟩, hj⟩
  choose p hp using h
  refine ⟨fun i => Y (p i).1 (p i).2, fun t j => ?_⟩
  have key : p ((r t).emb j) = ⟨t, j⟩ := by
    have h1 := hp ((r t).emb j)
    generalize p ((r t).emb j) = q at h1
    obtain ⟨t', j'⟩ := q
    by_cases ht : t' = t
    · subst ht
      exact congrArg (Sigma.mk t') ((r t').emb.injective h1)
    · exact absurd (show (r t).emb j ∈ (r t').set from h1 ▸ (r t').idx_mem j') (Finset.disjoint_right.mp (hd t' t ht) ((r t).idx_mem j))
  show Y (p ((r t).emb j)).1 (p ((r t).emb j)).2 = Y t j
  rw [key]

include hd hcov in
omit [FloatOps F] in
/-- A buffer is split into its places. -/
theorem slots_split : (OwnE c mr : sProp 𝕄) ⊢ bigSep Finset.univ fun t => OwnE c (mr.slice (r t) (hr t)) := by
  iintro ⟨%X, H⟩
  ihave H := (owns_rects (c : Thread nD τ) mr fullShare r hr hd hcov X) $$ H
  iapply (big_mono (s := Finset.univ) (Φ := fun t => Own c (mr.slice (r t) (hr t)) fullShare (fun j => X ((r t).emb j))) (Ψ := fun t => OwnE c (mr.slice (r t) (hr t)))
    (fun t _ => by iintro H; iexists _; iexact H)) $$ H

include hd hcov in
/-- The places make up the buffer again. -/
theorem slots_join : (bigSep Finset.univ fun t => OwnE c (mr.slice (r t) (hr t)) : sProp 𝕄) ⊢ OwnE c mr := by
  iintro H
  ihave H := (BI.bigSep_exists_pi Finset.univ (fun (t : T) (Y : (r t).shape.Idx → Elt F e) => (Own c (mr.slice (r t) (hr t)) fullShare Y : sProp 𝕄))) $$ H
  icases H with ⟨%Y, H⟩
  obtain ⟨X, hX⟩ := glue (F := F) r hd hcov Y
  iexists X
  iapply (owns_of_rects (c : Thread nD τ) mr fullShare r hr hd hcov X)
  iapply (big_mono (s := Finset.univ) (Φ := fun t => Own c (mr.slice (r t) (hr t)) fullShare (Y t)) (fun t _ => Entails.of_eq (congrArg (Own c (mr.slice (r t) (hr t)) fullShare) (funext fun j => (hX t j).symm)))) $$ H

end Slots

/-- The row blocks of the result are disjoint. -/
theorem rO_disj (d d' : Fin 16) (h : d ≠ d') : Disjoint (rO d).set (rO d').set := by
  refine Rect.unit_disjoint 0 ?_
  show 256 * d.val + 256 ≤ 256 * d'.val ∨ 256 * d'.val + 256 ≤ 256 * d.val
  have : d.val ≠ d'.val := fun e => h (Fin.ext e)
  omega
/-- The row blocks cover the result. -/
theorem rO_cov : (Finset.univ : Finset (Fin 16)).biUnion (fun t => (rO t).set) = Finset.univ := by
  refine Finset.eq_univ_iff_forall.mpr fun i => Finset.mem_biUnion.mpr ⟨⟨(i 0).val / 256, by have : (i 0).val < 4096 := (i 0).isLt; omega⟩, Finset.mem_univ _, Rect.mem_set_unit.mpr fun a => ?_⟩
  fin_cases a
  · show 256 * ((i 0).val / 256) ≤ (i 0).val ∧ (i 0).val < 256 * ((i 0).val / 256) + 256
    omega
  · exact ⟨Nat.zero_le _, by have := (i 1).isLt; simpa using this⟩
/-- The places for codes are disjoint. -/
theorem rQ_disj (d d' : Fin 16) (h : d ≠ d') : Disjoint (rQ d).set (rQ d').set := by
  refine Rect.unit_disjoint 0 ?_
  show d.val + 1 ≤ d'.val ∨ d'.val + 1 ≤ d.val
  have : d.val ≠ d'.val := fun e => h (Fin.ext e)
  omega
/-- The places for codes cover their buffer. -/
theorem rQ_cov : (Finset.univ : Finset (Fin 16)).biUnion (fun t => (rQ t).set) = Finset.univ := by
  refine Finset.eq_univ_iff_forall.mpr fun i => Finset.mem_biUnion.mpr ⟨⟨(i 0).val, (i 0).isLt⟩, Finset.mem_univ _, Rect.mem_set_unit.mpr fun a => ?_⟩
  fin_cases a
  · exact ⟨le_rfl, Nat.lt_succ_self _⟩
  · exact ⟨Nat.zero_le _, by have := (i 1).isLt; simpa using this⟩
  · exact ⟨Nat.zero_le _, by have := (i 2).isLt; simpa using this⟩
/-- The chunks of the weight buffers are disjoint. -/
theorem rW_disj (p p' : Fin 3 × Fin 4) (h : p ≠ p') : Disjoint (rW p.1 p.2).set (rW p'.1 p'.2).set := by
  by_cases h1 : p.1 = p'.1
  · refine Rect.unit_disjoint 1 ?_
    show 1024 * p.2.val + 1024 ≤ 1024 * p'.2.val ∨ 1024 * p'.2.val + 1024 ≤ 1024 * p.2.val
    have : p.2.val ≠ p'.2.val := fun e => h (Prod.ext h1 (Fin.ext e))
    omega
  · refine Rect.unit_disjoint 0 ?_
    show p.1.val + 1 ≤ p'.1.val ∨ p'.1.val + 1 ≤ p.1.val
    have : p.1.val ≠ p'.1.val := fun e => h1 (Fin.ext e)
    omega
/-- The chunks cover the weight buffers. -/
theorem rW_cov : (Finset.univ : Finset (Fin 3 × Fin 4)).biUnion (fun p => (rW p.1 p.2).set) = Finset.univ := by
  refine Finset.eq_univ_iff_forall.mpr fun i => Finset.mem_biUnion.mpr ⟨(⟨(i 0).val, (i 0).isLt⟩, ⟨(i 1).val / 1024, by have : (i 1).val < 4096 := (i 1).isLt; omega⟩), Finset.mem_univ _, Rect.mem_set_unit.mpr fun a => ?_⟩
  fin_cases a
  · exact ⟨le_rfl, Nat.lt_succ_self _⟩
  · show 1024 * ((i 1).val / 1024) ≤ (i 1).val ∧ (i 1).val < 1024 * ((i 1).val / 1024) + 1024
    omega
  · exact ⟨Nat.zero_le _, by have := (i 2).isLt; simpa using this⟩

variable (m : (ℓ : Loc nD τ sig) → Buf (Elt F) ℓ)

/-- A row block of the device's result. -/
theorem outAt_block (c : Dev nD) (t : Fin 16) : (fun j => outAt m c ((rO t).emb j)) = outv m c t := by
  funext j
  have h0 : (j 0).val < 256 := (j 0).isLt
  have e0 : (((rO t).emb j) 0).val = 256 * t.val + (j 0).val := by
    show 256 * t.val + 1 * (j 0).val = _; omega
  have e1 : (((rO t).emb j) 1).val = (j 1).val := by
    show 0 + 1 * (j 1).val = _; omega
  unfold outAt
  have ht : (⟨(((rO t).emb j) 0).val / 256, by have := (((rO t).emb j) 0).isLt; change (((rO t).emb j) 0).val < 4096 at this; omega⟩ : Fin 16) = t := by
    apply Fin.ext; dsimp only; rw [e0]; omega
  rw [ht]
  congr 1
  funext a
  apply Fin.ext
  fin_cases a
  · show (((rO t).emb j) 0).val % 256 = (j 0).val
    rw [e0]; omega
  · exact e1

/-- The row blocks of the result are the result. -/
theorem out_join (c : Dev nD) : (bigSep Finset.univ fun t : Fin 16 => Own c (oSl t) fullShare (outv m c t) : sProp 𝕄) ⊢ Own c oM fullShare (outAt m c) := by
  refine (big_mono fun t _ => Entails.of_eq (congrArg (Own c (oSl t) fullShare) (outAt_block m c t).symm)).trans ?_
  exact owns_of_rects (c : Thread nD τ) oM fullShare rO (fun _ _ => rfl) rO_disj rO_cov (outAt m c)

end Cert.KernelProof
-- ==== Proof.Body.lean ====
/-
The kernel's run on one device: from what the device holds at the start to what it holds at the end, with the result in place.
-/
module

public import proofs.«01_k».proof.Proof.Split

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- The kernel's program on a device. -/
abbrev body (F : FTy → Type) [FloatOps F] : Prog (TpuEff nD τ sig (Elt F) Λ₀ .tc) PUnit :=
  cc0_body (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8

/-- A program that only returns meets its postcondition at the returned value. -/
theorem st_ret (c : Dev nD) {α : Type} {Q : α → sProp 𝕄} {a : α} {S : sProp 𝕄} (h : S ⊢ Q a) : S ⊢ WP c (.ret a) Q := by
  show S ⊢ (iprop(|={Set.univ}[frame]=> Q a) : sProp 𝕄)
  iintro H
  imodintro
  iapply h $$ H

/-! ## What the device holds between the phases -/

def cells (c : Dev nD) : sProp 𝕄 := bigSep Finset.univ fun p : Fin 3 × Fin 4 => cellSt m c p none
def xIn (c : Dev nD) : sProp 𝕄 := Own c xM fullShare (xstg m c)
def tok1 (c : Dev nD) : sProp 𝕄 := bigSep nz fun d : Fin 16 => iprop(dutyTok ER (xCell 2 c d) 0 0 ∗ dutyTok ER (xCell 3 (c + d) d) 0 0)
def tok2 (c : Dev nD) : sProp 𝕄 := bigSep nz fun d : Fin 16 => iprop(OwnE c (sSl d) ∗ dutyTok ER (xCell 0 c d) 0 0 ∗ dutyTok ER (xCell 1 (c + d) d) 0 0)
def at02 (c : Dev nD) : sProp 𝕄 := bigSep nz fun d : Fin 16 => iprop(atPos ER (xCell 0 c d) 0 ∅ 0 ∗ atPos ER (xCell 2 c d) 0 ∅ 0)
def at3 (c : Dev nD) : sProp 𝕄 := bigSep nz fun d : Fin 16 => atPos ER (xCell 3 c d) 1 ∅ 0
def atB (c : Dev nD) : sProp 𝕄 := atPos ER (barCell c) 1 ∅ 0
def mx0 (c : Dev nD) : sProp 𝕄 := Own c (mSl 0) (sh 0) (mx m c)
def mxs (c : Dev nD) : sProp 𝕄 := bigSep nz fun d : Fin 16 => Own c (mSl d) fullShare (mx m (c - d))
def landM (c : Dev nD) : sProp 𝕄 := bigSep nz fun d : Fin 16 => OwnE (c + d) (mSl d)
def landR (c : Dev nD) : sProp 𝕄 := bigSep nz fun d : Fin 16 => OwnE (c + d) (rSl d)

def E1 (c : Dev nD) : sProp 𝕄 :=
  iprop(xIn m c ∗ cells m c ∗ OutSt m c 0 ∗ OwnE c (mSl 0) ∗ tok1 c ∗ tok2 c ∗ bigSep nz (nA c) ∗ bigSep nz (gA c) ∗ at02 c)
def E2 (c : Dev nD) : sProp 𝕄 :=
  iprop(atB c ∗ landM c ∗ landR c ∗ OwnE c (mSl 0) ∗ tok1 c ∗ tok2 c ∗ bigSep nz (nA c) ∗ bigSep nz (gA c) ∗ at02 c)
def E3 (c : Dev nD) : sProp 𝕄 :=
  iprop(TS m K c 16 16 ∗ atB c ∗ landM c ∗ landR c ∗ tok1 c ∗ tok2 c ∗ bigSep nz (nA c) ∗ bigSep nz (gA c) ∗ at02 c)
def E4 (c : Dev nD) : sProp 𝕄 :=
  iprop(xIn m c ∗ cells m c ∗ OutSt m c 16 ∗ atB c ∗ mx0 m c ∗ landR c ∗ tok2 c ∗ bigSep nz (nA c) ∗ bigSep nz (gA c) ∗ at02 c)
def E5 (c : Dev nD) : sProp 𝕄 :=
  iprop(xIn m c ∗ cells m c ∗ OutSt m c 16 ∗ atB c ∗ mx0 m c ∗ landR c ∗ tok2 c ∗ bigSep nz (mB c) ∗ bigSep nz (gA c) ∗ at02 c)
def E6 (c : Dev nD) : sProp 𝕄 :=
  iprop(PP m K ∗ OW c (OQ c 1) ∗ xIn m c ∗ cells m c ∗ OutSt m c 16 ∗ atB c ∗ landR c ∗ tok2 c ∗ bigSep nz (mB c) ∗ bigSep nz (gA c) ∗ at02 c ∗ at3 c)
def E7 (c : Dev nD) : sProp 𝕄 :=
  iprop(mx0 m c ∗ mxs m c ∗ xIn m c ∗ cells m c ∗ atB c ∗ bigSep nz (mB c) ∗ bigSep nz (gA c) ∗ at02 c ∗ at3 c)
def E8 (c : Dev nD) : sProp 𝕄 := iprop(PP m K ∗ OW c 0 ∗ bigSep nz (qB c) ∗ E7 m c)
def E9 (c : Dev nD) : sProp 𝕄 :=
  iprop(bigSep nz (qB c) ∗ mx0 m c ∗ mxs m c ∗ xIn m c ∗ cells m c ∗ atB c ∗ bigSep nz (mB c) ∗ at02 c ∗ at3 c)
def E10 (c : Dev nD) : sProp 𝕄 :=
  iprop(FinO m c 16 ∗ bigSep nz (gB m c) ∗ mx0 m c ∗ mxs m c ∗ xIn m c ∗ cells m c ∗ atB c ∗ at3 c)

/-- No weight copy is in flight before the first tile. -/
theorem fl_0 (p : Fin 3 × Fin 4) : fl (4 * 0) (4 * 0) p = none := by revert p; decide +kernel
/-- No weight copy is in flight after the last tile. -/
theorem fl_16 (p : Fin 3 × Fin 4) : fl (4 * 16) (4 * 16) p = none := by revert p; decide +kernel

/-- After the barrier, what is owned is what the tiles start from. -/
theorem cv1 (c : Dev nD) (R : sProp 𝕄) : iprop(BarSt m K c ∗ E1 m c ∗ R) ⊢ iprop(TS m K c 0 0 ∗ E2 c ∗ R) := by
  unfold BarSt E1 E2 TS TileSt xIn landM landR atB
  iintro ⟨⟨HP, HO, Hat, HL⟩, ⟨Hx, Hc, Ho, H⟩, HR⟩
  ihave HL := (Entails.of_eq (bigSep_sep' nz (fun d : Fin 16 => OwnE (F := F) (c + d) (mSl d)) (fun d : Fin 16 => OwnE (F := F) (c + d) (rSl d)))) $$ HL
  icases HL with ⟨HM, HRR⟩
  isplitl [HP HO Hx Hc Ho]
  · isplitl [HP]; · iexact HP
    isplitl [HO]; · iexact HO
    isplitl [Hx]; · iexact Hx
    isplitl [Hc]
    · unfold cells
      iapply (Entails.of_eq (bigSep_congr (s := Finset.univ) (Φ := fun p : Fin 3 × Fin 4 => cellSt m c p none) (fun p _ => congrArg (cellSt m c p) (fl_0 p).symm))) $$ Hc
    iexact Ho
  isplitr [HR]
  · isplitl [Hat]; · iexact Hat
    isplitl [HM]; · iexact HM
    isplitl [HRR]; · iexact HRR
    iexact H
  iexact HR

/-- After the last tile, the first place for maxima is ready to be stored to. -/
theorem cv2 (c : Dev nD) (R : sProp 𝕄) : iprop(TS m K c 16 16 ∗ E2 c ∗ R) ⊢ iprop(OwnE c (mSl 0) ∗ E3 m K c ∗ R) := by
  unfold E2 E3
  iintro ⟨HT, ⟨Hb, HM, HL, Hm, H⟩, HR⟩
  isplitl [Hm]; · iexact Hm
  isplitr [HR]
  · isplitl [HT]; · iexact HT
    isplitl [Hb]; · iexact Hb
    isplitl [HM]; · iexact HM
    isplitl [HL]; · iexact HL
    iexact H
  iexact HR

/-- With its maximum stored, the device can start sending it. -/
theorem cv3 (c : Dev nD) (R : sProp 𝕄) : iprop(Own c (mSl 0) fullShare (mx m c) ∗ E3 m K c ∗ R) ⊢ iprop(MSt m K c 1 ∗ E4 m c ∗ R) := by
  unfold E3 E4 TS TileSt MSt xIn mx0 landM tok1
  iintro ⟨Hm, ⟨⟨HP, HO, Hx, Hc, Ho⟩, Hb, HM, HL, HT, H⟩, HR⟩
  ihave Hm := (own_shares c (mSl 0) (mx m c)) $$ Hm
  ihave Hm := (Entails.of_eq (big_erase (Finset.mem_univ (0 : Fin 16)) (Φ := fun d : Fin 16 => Own c (mSl 0) (sh d) (mx m c)))) $$ Hm
  icases Hm with ⟨Hm0, Hm⟩
  isplitl [HP HO HM HT Hm]
  · isplitl [HP]; · iexact HP
    isplitl [HO]; · iexact HO
    iapply (Seq_start (A := mA m c) (B := mB c))
    ihave HMT := (Entails.of_eq (bigSep_sep' nz (fun d : Fin 16 => OwnE (F := F) (c + d) (mSl d)) (fun d : Fin 16 => iprop(dutyTok ER (xCell 2 c d) 0 0 ∗ dutyTok ER (xCell 3 (c + d) d) 0 0))).symm) $$ [HM HT]
    · isplitl [HM] <;> iassumption
    ihave HA := (Entails.of_eq (bigSep_sep' nz (fun d : Fin 16 => Own c (mSl 0) (sh d) (mx m c)) (fun d : Fin 16 => iprop(OwnE (F := F) (c + d) (mSl d) ∗ dutyTok ER (xCell 2 c d) 0 0 ∗ dutyTok ER (xCell 3 (c + d) d) 0 0))).symm) $$ [Hm HMT]
    · isplitl [Hm] <;> iassumption
    iexact HA
  isplitr [HR]
  · isplitl [Hx]; · iexact Hx
    isplitl [Hc]
    · unfold cells
      iapply (Entails.of_eq (bigSep_congr (s := Finset.univ) (Ψ := fun p : Fin 3 × Fin 4 => cellSt m c p none) (fun p _ => congrArg (cellSt m c p) (fl_16 p)))) $$ Hc
    isplitl [Ho]; · iexact Ho
    isplitl [Hb]; · iexact Hb
    isplitl [Hm0]; · iexact Hm0
    isplitl [HL]; · iexact HL
    iexact H
  iexact HR

/-- With every maximum sent, the device can start waiting for the others'. -/
theorem cv4 (c : Dev nD) (R : sProp 𝕄) : iprop(MSt m K c (15 + 1) ∗ E4 m c ∗ R) ⊢ iprop(NSt m K c 1 ∗ E5 m c ∗ R) := by
  have hz : OQ c 1 + OM c (15 + 1) = OQ c 1 := (congrArg (fun x => OQ c 1 + x) (tail_done (dueM c))).trans (add_zero _)
  unfold E4 E5 MSt NSt
  rw [hz]
  iintro ⟨⟨HP, HO, HS⟩, ⟨Hx, Hc, Ho, Hb, Hm0, HL, HT, Hn, H⟩, HR⟩
  ihave HS := (Seq_done (A := mA m c) (B := mB c)) $$ HS
  isplitl [HP HO Hn]
  · isplitl [HP]; · iexact HP
    isplitl [HO]; · iexact HO
    iapply (Seq_start (A := nA c) (B := nB m c)) $$ Hn
  isplitr [HR]
  · isplitl [Hx]; · iexact Hx
    isplitl [Hc]; · iexact Hc
    isplitl [Ho]; · iexact Ho
    isplitl [Hb]; · iexact Hb
    isplitl [Hm0]; · iexact Hm0
    isplitl [HL]; · iexact HL
    isplitl [HT]; · iexact HT
    isplitl [HS]; · iexact HS
    iexact H
  iexact HR

/-- With every maximum received, the device owns all sixteen places for maxima. -/
theorem cv5 (c : Dev nD) (R : sProp 𝕄) : iprop(NSt m K c (15 + 1) ∗ E5 m c ∗ R)
    ⊢ iprop(Own c (mSl 0) (sh 0) (mx m c) ∗ (bigSep nz fun d : Fin 16 => Own c (mSl d) fullShare (mx m (c - d))) ∗ E6 m K c ∗ R) := by
  unfold E5 E6 NSt mx0 at3
  iintro ⟨⟨HP, HO, HS⟩, ⟨Hx, Hc, Ho, Hb, Hm0, HL, HT, Hn, Hg, Ha⟩, HR⟩
  ihave HS := (Seq_done (A := nA c) (B := nB m c)) $$ HS
  ihave HS := (show (bigSep nz (nB m c) : sProp 𝕄) ⊢ _ from Entails.of_eq (bigSep_sep' nz (fun d : Fin 16 => Own c (mSl d) fullShare (mx m (c - d))) (fun d : Fin 16 => (atPos ER (xCell 3 c d) 1 ∅ 0 : sProp 𝕄)))) $$ HS
  icases HS with ⟨HM, H3⟩
  isplitl [Hm0]; · iexact Hm0
  isplitl [HM]; · iexact HM
  isplitr [HR]
  · isplitl [HP]; · iexact HP
    isplitl [HO]; · iexact HO
    isplitl [Hx]; · iexact Hx
    isplitl [Hc]; · iexact Hc
    isplitl [Ho]; · iexact Ho
    isplitl [Hb]; · iexact Hb
    isplitl [HL]; · iexact HL
    isplitl [HT]; · iexact HT
    isplitl [Hn]; · iexact Hn
    isplitl [Hg]; · iexact Hg
    isplitl [Ha]; · iexact Ha
    iexact H3
  iexact HR

/-- Counting tiles from the next device reaches every device. -/
theorem tile_at (c t : Fin 16) : c + ((t - c - 1) + 1) = t := by revert c t; decide +kernel

/-- All sixteen tiles stored: the row blocks are the product's tiles. -/
theorem out_all (c : Dev nD) : (OutSt m c 16 : sProp 𝕄) ⊢ bigSep Finset.univ fun t : Fin 16 => Own c (oSl t) fullShare (yv m c t) := by
  unfold OutSt
  iintro ⟨%v, %hv, H⟩
  iapply (Entails.of_eq (bigSep_congr (s := Finset.univ) (Φ := fun t : Fin 16 => Own c (oSl t) fullShare (v t)) (fun t _ => congrArg (Own c (oSl t) fullShare)
    (by have h := hv (t - c - 1) (t - c - 1).isLt; rw [tile_at c t] at h; exact h)))) $$ H

/-- With the maxima read, the device can start quantising and sending tiles. -/
theorem cv6 (c : Dev nD) (R : sProp 𝕄) : iprop(Own c (mSl 0) (sh 0) (mx m c) ∗ (bigSep nz fun d : Fin 16 => Own c (mSl d) fullShare (mx m (c - d))) ∗ E6 m K c ∗ R)
    ⊢ iprop(QSt m K c 1 ∗ E7 m c ∗ R) := by
  unfold E6 E7 QSt mx0 mxs landR tok2
  iintro ⟨Hm0, HM, ⟨HP, HO, Hx, Hc, Ho, Hb, HL, HT, Hn, Hg, Ha, H3⟩, HR⟩
  isplitl [HP HO Ho HL HT]
  · isplitl [HP]; · iexact HP
    isplitl [HO]; · iexact HO
    isplitl [Ho]; · iapply (out_all m c) $$ Ho
    iapply (Seq_start (A := qA c) (B := qB c))
    ihave HA := (Entails.of_eq (bigSep_sep' nz (fun d : Fin 16 => OwnE (F := F) (c + d) (rSl d)) (fun d : Fin 16 => iprop(OwnE (F := F) c (sSl d) ∗ dutyTok ER (xCell 0 c d) 0 0 ∗ dutyTok ER (xCell 1 (c + d) d) 0 0))).symm) $$ [HL HT]
    · isplitl [HL] <;> iassumption
    iapply (big_mono (s := nz) (Ψ := qA c) (fun d _ => by unfold qA; iintro ⟨H1, H2, H3⟩; isplitl [H2]; · iexact H2
                                                          isplitl [H1] <;> iassumption)) $$ HA
  isplitr [HR]
  · isplitl [Hm0]; · iexact Hm0
    isplitl [HM]; · iexact HM
    isplitl [Hx]; · iexact Hx
    isplitl [Hc]; · iexact Hc
    isplitl [Hb]; · iexact Hb
    isplitl [Hn]; · iexact Hn
    isplitl [Hg]; · iexact Hg
    isplitl [Ha]; · iexact Ha
    iexact H3
  iexact HR

/-- With every tile sent, the result's array still holds the sixteen tiles. -/
theorem cv7 (c : Dev nD) (R : sProp 𝕄) : iprop(QSt m K c (15 + 1) ∗ E7 m c ∗ R) ⊢ iprop((bigSep Finset.univ fun t : Fin 16 => Own c (oSl t) fullShare (yv m c t)) ∗ E8 m K c ∗ R) := by
  have hz : OQ c (15 + 1) = 0 := tail_done (dueQ c)
  unfold E8 QSt
  rw [hz]
  iintro ⟨⟨HP, HO, Ho, HS⟩, H, HR⟩
  ihave HS := (Seq_done (A := qA c) (B := qB c)) $$ HS
  isplitl [Ho]; · iexact Ho
  isplitr [HR]
  · isplitl [HP]; · iexact HP
    isplitl [HO]; · iexact HO
    isplitl [HS]; · iexact HS
    iexact H
  iexact HR

/-- With its own block written, the device can start receiving blocks. -/
theorem cv8 (c : Dev nD) (R : sProp 𝕄) : iprop(FinO m c 1 ∗ E8 m K c ∗ R) ⊢ iprop(GSt m K c 1 ∗ E9 m c ∗ R) := by
  unfold E8 E7 E9 GSt
  iintro ⟨HF, ⟨HP, HO, Hq, Hm0, HM, Hx, Hc, Hb, Hn, Hg, H⟩, HR⟩
  isplitl [HP HO HF Hg]
  · isplitl [HP]; · iexact HP
    isplitl [HO]; · iexact HO
    isplitl [HF]; · iexact HF
    iapply (Seq_start (A := gA c) (B := gB m c)) $$ Hg
  isplitr [HR]
  · isplitl [Hq]; · iexact Hq
    isplitl [Hm0]; · iexact Hm0
    isplitl [HM]; · iexact HM
    isplitl [Hx]; · iexact Hx
    isplitl [Hc]; · iexact Hc
    isplitl [Hb]; · iexact Hb
    isplitl [Hn]; · iexact Hn
    iexact H
  iexact HR

/-- With every block received, the device can wait for the ends of its sends. -/
theorem cv9 (c : Dev nD) (R : sProp 𝕄) : iprop(GSt m K c (15 + 1) ∗ E9 m c ∗ R) ⊢ iprop(ESt m K c 1 ∗ E10 m c ∗ R) := by
  unfold E9 E10 GSt ESt at02
  iintro ⟨⟨HP, HO, HF, HS⟩, ⟨Hq, Hm0, HM, Hx, Hc, Hb, Hn, Ha, H3⟩, HR⟩
  ihave HS := (Seq_done (A := gA c) (B := gB m c)) $$ HS
  isplitl [HP HO Hq Hn Ha]
  · isplitl [HP]; · iexact HP
    isplitl [HO]; · iexact HO
    iapply (Seq_start (A := eA c) (B := eB m c))
    ihave Hqn := (Entails.of_eq (bigSep_sep' nz (qB (F := F) c) (mB c)).symm) $$ [Hq Hn]
    · isplitl [Hq] <;> iassumption
    ihave HA := (Entails.of_eq (bigSep_sep' nz (fun d : Fin 16 => iprop(qB (F := F) c d ∗ mB c d)) (fun d : Fin 16 => iprop(atPos ER (xCell 0 c d) 0 ∅ 0 ∗ atPos ER (xCell 2 c d) 0 ∅ 0))).symm) $$ [Hqn Ha]
    · isplitl [Hqn] <;> iassumption
    iapply (big_mono (s := nz) (Ψ := eA c) (fun d _ => by
      unfold eA qB mB; iintro ⟨⟨H1, H2⟩, H3, H4⟩
      isplitl [H1 H3]
      · isplitl [H1] <;> iassumption
      isplitl [H2] <;> iassumption)) $$ HA
  isplitr [HR]
  · isplitl [HF]; · iexact HF
    isplitl [HS]; · iexact HS
    isplitl [Hm0]; · iexact Hm0
    isplitl [HM]; · iexact HM
    isplitl [Hx]; · iexact Hx
    isplitl [Hc]; · iexact Hc
    isplitl [Hb]; · iexact Hb
    iexact H3
  iexact HR

set_option maxHeartbeats 8000000 in
/-- The kernel's run on device `c`, operation by operation. -/
theorem body_chain (c : Dev nD) (R : sProp 𝕄) :
    iprop(SigSt m K c 1 ∗ cred (tallyAt (barCell c) () 15) ∗ atPos ER (barCell c) 0 ∅ 0 ∗ E1 m c ∗ R) ⊢ WP c (body F) fun _ => iprop(ESt m K c (15 + 1) ∗ E10 m c ∗ R) := by
  refine st_dev c ?_
  iterate 15 refine st_sig m K c _ (Fin.ext (by revert c; decide +kernel)) rfl (by decide) rfl ?_
  refine st_bar m K c rfl rfl ?_
  refine st_conv c (cv1 m K c R) ?_
  iterate 2 refine st_start4 m K c (by revert c; decide +kernel) (by revert c; decide +kernel) (by revert c; decide +kernel) (by revert c; decide +kernel) ⟨rfl, rfl, rfl, rfl⟩ (by decide +kernel) ?_
  iterate 14
    refine st_start4 m K c (by revert c; decide +kernel) (by revert c; decide +kernel) (by revert c; decide +kernel) (by revert c; decide +kernel) ⟨rfl, rfl, rfl, rfl⟩ (by decide +kernel) ?_
    refine st_tile m K c ⟨rfl, rfl, rfl, rfl⟩ (by decide +kernel) (by decide) ⟨rfl, rfl, rfl, rfl⟩ (by revert c; decide +kernel) (fun _ _ _ _ _ _ _ _ => rfl) ?_
  iterate 2 refine st_tile m K c ⟨rfl, rfl, rfl, rfl⟩ (by decide +kernel) (by decide) ⟨rfl, rfl, rfl, rfl⟩ (by revert c; decide +kernel) (fun _ _ _ _ _ _ _ _ => rfl) ?_
  refine st_conv c (cv2 m K c R) ?_
  refine st_pub m c rfl ?_
  refine st_conv c (cv3 m K c R) ?_
  iterate 15 refine st_msend m K c _ (by decide) (by decide) (Fin.ext (by revert c; decide +kernel)) rfl rfl ?_
  refine st_conv c (cv4 m K c R) ?_
  iterate 15 refine st_mrecv m K c (by decide) (by decide) rfl ?_
  refine st_conv c (cv5 m K c R) ?_
  refine st_mload m c rfl ?_
  refine st_conv c (cv6 m K c R) ?_
  iterate 15 refine st_qsend m K c _ (by decide) (by decide) (Fin.ext (by revert c; decide +kernel)) rfl rfl (by revert c; decide +kernel) rfl (fun _ => rfl) ?_
  refine st_conv c (cv7 m K c R) ?_
  refine st_own m c (by revert c; decide +kernel) (fun _ => rfl) ?_
  refine st_conv c (cv8 m K c R) ?_
  iterate 15 refine st_qrecv m K c (by decide) (by decide) rfl rfl (by revert c; decide +kernel) (fun _ => rfl) ?_
  refine st_conv c (cv9 m K c R) ?_
  iterate 15 refine st_end m K c (by decide) (by decide) rfl rfl ?_
  exact st_ret c .rfl

end Cert.KernelProof
-- ==== Proof.Ends.lean ====
/-
The kernel's run between what the launch gives a device and what it leaves: arrays whole on both sides.
-/
module

public import proofs.«01_k».proof.Proof.Body

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The shares of the weights -/

def gE : Fin 3 × Fin 4 ↪ Fin 16 := ⟨fun p => ⟨4 * p.1.val + p.2.val, by omega⟩, fun p q h => by
  have h' : 4 * p.1.val + p.2.val = 4 * q.1.val + q.2.val := congrArg Fin.val h
  have := p.2.isLt; have := q.2.isLt
  exact Prod.ext (Fin.ext (by omega)) (Fin.ext (by omega))⟩

/-- The shares of the weights no copy reads at. -/
def gRest (c : Dev nD) : sProp 𝕄 := bigSep (Finset.univ \ Finset.univ.map gE) fun d : Fin 16 => Own c gM (sh d) (wG m c)

/-- The shares of the weights are one for each copy in flight and a rest. -/
theorem g_split (c : Dev nD) : (bigSep Finset.univ fun d : Fin 16 => Own c gM (sh d) (wG m c) : sProp 𝕄)
    = iprop((bigSep Finset.univ fun p : Fin 3 × Fin 4 => Own c gM (qs p.1 p.2) (wG m c)) ∗ gRest m c) := by
  rw [BI.bigSep_sdiff_split (Finset.subset_univ (Finset.univ.map gE)), bigSep_map]
  rfl

/-- The twelve chunks of the buffer are free: the buffer, the semaphores at zero and the shares of the weights. -/
theorem cells_eq (c : Dev nD) : (cells m c : sProp 𝕄)
    = iprop((bigSep Finset.univ fun p : Fin 3 × Fin 4 => OwnE c (wSl p.1 p.2))
      ∗ (bigSep Finset.univ fun p : Fin 3 × Fin 4 => semVal ((c : Thread nD τ), .dma (wS p.1 p.2)) 0)
      ∗ bigSep Finset.univ fun p : Fin 3 × Fin 4 => Own c gM (qs p.1 p.2) (wG m c)) := by
  unfold cells cellSt
  exact (bigSep_sep' _ _ _).trans (congrArg (fun X : sProp 𝕄 => iprop((bigSep Finset.univ fun p : Fin 3 × Fin 4 => OwnE c (wSl p.1 p.2)) ∗ X)) (bigSep_sep' _ _ _))

/-! ## Before and after -/

def semsW (c : Dev nD) : sProp 𝕄 := bigSep Finset.univ fun p : Fin 3 × Fin 4 => semVal ((c : Thread nD τ), .dma (wS p.1 p.2)) 0
def scr (c : Dev nD) : sProp 𝕄 := iprop(OwnE c wM ∗ OwnE c sM ∗ OwnE c rM ∗ OwnE c mM)
def barTok (c : Dev nD) : sProp 𝕄 := bigSep nz fun d : Fin 16 => dutyTok ER (barCell (c + d)) 0 d
def qTok (c : Dev nD) : sProp 𝕄 := bigSep nz fun d : Fin 16 => iprop(dutyTok ER (xCell 0 c d) 0 0 ∗ dutyTok ER (xCell 1 (c + d) d) 0 0)
/-- A device's marks and credits on its own cells. -/
def marks (c : Dev nD) : sProp 𝕄 := iprop(cred (tallyAt (barCell c) () 15) ∗ atPos ER (barCell c) 0 ∅ 0 ∗ bigSep nz (nA c) ∗ bigSep nz (gA c) ∗ at02 c)

/-- What device `c` holds before the kernel runs. -/
def PreSt (c : Dev nD) : sProp 𝕄 :=
  iprop(PP m K ∗ OW c (O₀ c) ∗ xIn m c ∗ OwnE c oM ∗ Own c gM fullShare (wG m c) ∗ scr c ∗ semsW c ∗ barTok c ∗ tok1 c ∗ qTok c ∗ marks c)

/-- Its marks when every round is over. -/
def ends (c : Dev nD) : sProp 𝕄 := iprop(atB c ∗ bigSep nz fun d : Fin 16 =>
  iprop(atPos ER (xCell 0 c d) 1 ∅ 0 ∗ atPos ER (xCell 1 c d) 1 ∅ 0 ∗ atPos ER (xCell 2 c d) 1 ∅ 0 ∗ atPos ER (xCell 3 c d) 1 ∅ 0))

/-- What it holds after: the result computed, all it was lent given back. -/
def PostSt (c : Dev nD) : sProp 𝕄 :=
  iprop(PP m K ∗ OW c 0 ∗ xIn m c ∗ Own c oM fullShare (outAt m c) ∗ Own c gM fullShare (wG m c) ∗ scr c ∗ semsW c ∗ ends c)

/-- The resources the run does not touch: slot 0 of the quantised blocks, and the shares of the weights left over. -/
def kept (c : Dev nD) : sProp 𝕄 := iprop(OwnE c (sSl 0) ∗ OwnE c (rSl 0) ∗ gRest m c)

omit [FloatOps F] in
/-- A family over the distances, taken backwards. -/
theorem flip_nz (Φ : Fin 16 → sProp 𝕄) : (bigSep nz Φ : sProp 𝕄) = bigSep nz fun d => Φ (-d) := by
  have e : nz.map negE.toEmbedding = nz := by decide
  have h := bigSep_map (s := nz) (e := negE.toEmbedding) (Φ := Φ)
  rw [e] at h
  exact h

omit [FloatOps F] in
/-- A separating product over sixteen is the factor at zero and the others. -/
theorem off_zero (Φ : Fin 16 → sProp 𝕄) : (bigSep Finset.univ Φ : sProp 𝕄) = iprop(Φ 0 ∗ bigSep nz Φ) := big_erase (Finset.mem_univ 0)

/-- What a device starts with is what its signals start from, and what later steps take. -/
theorem pre_chain (c : Dev nD) : PreSt m K c ⊢ iprop(SigSt m K c 1 ∗ cred (tallyAt (barCell c) () 15) ∗ atPos ER (barCell c) 0 ∅ 0 ∗ E1 m c ∗ kept m c) := by
  unfold PreSt SigSt E1 kept scr marks barTok qTok semsW
  rw [cells_eq]
  iintro ⟨HP, HO, Hx, Ho, Hg, ⟨Hw, Hs, Hr, Hm⟩, Hsw, HtB, Ht1, HtQ, Hc, Hb, Hn, HgA, Ha⟩
  ihave Hg := (own_shares c gM (wG m c)) $$ Hg
  ihave Hg := (Entails.of_eq (g_split m c)) $$ Hg
  icases Hg with ⟨Hg, Hgr⟩
  ihave Hw := (slots_split c wM (fun p : Fin 3 × Fin 4 => rW p.1 p.2) (fun _ _ => rfl) rW_disj rW_cov) $$ Hw
  ihave Hs := (show _ ⊢ (bigSep Finset.univ fun d : Fin 16 => OwnE (F := F) c (sSl d) : sProp 𝕄) from slots_split c sM rQ (fun _ _ => rfl) rQ_disj rQ_cov) $$ Hs
  ihave Hr := (show _ ⊢ (bigSep Finset.univ fun d : Fin 16 => OwnE (F := F) c (rSl d) : sProp 𝕄) from slots_split c rM rQ (fun _ _ => rfl) rQ_disj rQ_cov) $$ Hr
  ihave Hm := (show _ ⊢ (bigSep Finset.univ fun d : Fin 16 => OwnE (F := F) c (mSl d) : sProp 𝕄) from slots_split c mM rMx (fun _ _ => rfl) rMx_disj rMx_cov) $$ Hm
  icases Ho with ⟨%Y, Ho⟩
  ihave Ho := (owns_rects (c : Thread nD τ) oM fullShare rO (fun _ _ => rfl) rO_disj rO_cov Y) $$ Ho
  ihave Hs := (Entails.of_eq (off_zero (fun d : Fin 16 => OwnE (F := F) c (sSl d)))) $$ Hs
  icases Hs with ⟨Hs0, Hs⟩
  ihave Hr := (Entails.of_eq (off_zero (fun d : Fin 16 => OwnE (F := F) c (rSl d)))) $$ Hr
  icases Hr with ⟨Hr0, Hr⟩
  ihave Hm := (Entails.of_eq (off_zero (fun d : Fin 16 => OwnE (F := F) c (mSl d)))) $$ Hm
  icases Hm with ⟨Hm0, Hm⟩
  ihave Hr := (Entails.of_eq (flip_nz (fun d : Fin 16 => OwnE (F := F) c (rSl d)))) $$ Hr
  ihave Hm := (Entails.of_eq (flip_nz (fun d : Fin 16 => OwnE (F := F) c (mSl d)))) $$ Hm
  isplitl [HP HO HtB Hr Hm]
  · isplitl [HP]; · iexact HP
    isplitl [HO]; · iexact HO
    iapply (Seq_start (A := sigA c) (B := fun _ => iprop(emp)))
    ihave H2 := (Entails.of_eq (bigSep_sep' nz (fun d : Fin 16 => OwnE (F := F) c (mSl (-d))) (fun d : Fin 16 => OwnE (F := F) c (rSl (-d)))).symm) $$ [Hm Hr]
    · isplitl [Hm] <;> iassumption
    ihave H3 := (Entails.of_eq (bigSep_sep' nz (fun d : Fin 16 => (dutyTok ER (barCell (c + d)) 0 d : sProp 𝕄)) (fun d : Fin 16 => iprop(OwnE (F := F) c (mSl (-d)) ∗ OwnE (F := F) c (rSl (-d))))).symm) $$ [HtB H2]
    · isplitl [HtB]; · iexact HtB
      iexact H2
    iexact H3
  isplitl [Hc]; · iexact Hc
  isplitl [Hb]; · iexact Hb
  isplitr [Hs0 Hr0 Hgr]
  · isplitl [Hx]; · iexact Hx
    isplitl [Hw Hsw Hg]
    · isplitl [Hw]; · iexact Hw
      isplitl [Hsw]; · iexact Hsw
      iexact Hg
    isplitl [Ho]
    · unfold OutSt
      iexists (fun t j => Y ((rO t).emb j))
      isplitr
      · ipureintro; exact fun x hx => absurd hx (Nat.not_lt_zero _)
      iexact Ho
    isplitl [Hm0]; · iexact Hm0
    isplitl [Ht1]; · iexact Ht1
    isplitl [Hs HtQ]
    · unfold tok2
      iapply (Entails.of_eq (bigSep_sep' nz (fun d : Fin 16 => OwnE (F := F) c (sSl d)) (fun d : Fin 16 => iprop(dutyTok ER (xCell 0 c d) 0 0 ∗ dutyTok ER (xCell 1 (c + d) d) 0 0))).symm)
      isplitl [Hs]; · iexact Hs
      iexact HtQ
    isplitl [Hn]; · iexact Hn
    isplitl [HgA]; · iexact HgA
    iexact Ha
  isplitl [Hs0]; · iexact Hs0
  isplitl [Hr0]; · iexact Hr0
  iexact Hgr

/-- Subtracting a difference gives the subtrahend back. -/
theorem sub_sub' (c t : Fin 16) : c - (c - t) = t := by revert c t; decide +kernel

/-- With every row block written, the result's array is whole. -/
theorem fin_out (c : Dev nD) : (FinO m c 16 : sProp 𝕄) ⊢ Own c oM fullShare (outAt m c) := by
  unfold FinO
  iintro ⟨%v, %hv, H⟩
  iapply (out_join m c)
  iapply (Entails.of_eq (bigSep_congr (s := Finset.univ) (Φ := fun t : Fin 16 => Own c (oSl t) fullShare (v t)) (fun t _ => congrArg (Own c (oSl t) fullShare)
    (by have h := hv (c - t) (c - t).isLt; rw [sub_sub' c t] at h; exact h)))) $$ H

/-- An array is its slot 0 and the others. -/
theorem join_s (c : Dev nD) : iprop(OwnE c (sSl 0) ∗ bigSep nz fun d : Fin 16 => OwnE c (sSl d)) ⊢ (OwnE c sM : sProp 𝕄) :=
  (Entails.of_eq (off_zero (fun d : Fin 16 => OwnE (F := F) c (sSl d))).symm).trans (slots_join c sM rQ (fun _ _ => rfl) rQ_disj rQ_cov)
/-- The places for received codes make up their buffer. -/
theorem join_r (c : Dev nD) : iprop(OwnE c (rSl 0) ∗ bigSep nz fun d : Fin 16 => OwnE c (rSl d)) ⊢ (OwnE c rM : sProp 𝕄) :=
  (Entails.of_eq (off_zero (fun d : Fin 16 => OwnE (F := F) c (rSl d))).symm).trans (slots_join c rM rQ (fun _ _ => rfl) rQ_disj rQ_cov)
/-- The places for maxima make up their buffer. -/
theorem join_m (c : Dev nD) : iprop(OwnE c (mSl 0) ∗ bigSep nz fun d : Fin 16 => OwnE c (mSl d)) ⊢ (OwnE c mM : sProp 𝕄) :=
  (Entails.of_eq (off_zero (fun d : Fin 16 => OwnE (F := F) c (mSl d))).symm).trans (slots_join c mM rMx (fun _ _ => rfl) rMx_disj rMx_cov)

/-- What the ended sends gave back, by kind. -/
theorem eB_split (c : Dev nD) : (bigSep nz (eB m c) : sProp 𝕄)
    ⊢ iprop((bigSep nz fun d : Fin 16 => OwnE c (sSl d)) ∗ (bigSep nz fun d : Fin 16 => Own c (mSl 0) (sh d) (mx m c))
      ∗ bigSep nz fun d : Fin 16 => iprop(atPos ER (xCell 0 c d) 1 ∅ 0 ∗ atPos ER (xCell 2 c d) 1 ∅ 0)) := by
  refine (big_mono (Ψ := fun d : Fin 16 => iprop(OwnE c (sSl d) ∗ Own c (mSl 0) (sh d) (mx m c) ∗ atPos ER (xCell 0 c d) 1 ∅ 0 ∗ atPos ER (xCell 2 c d) 1 ∅ 0)) fun d _ => ?_).trans ?_
  · unfold eB
    iintro ⟨⟨H1, H2⟩, H3, H4⟩
    isplitl [H1]; · iexists _; iexact H1
    isplitl [H3]; · iexact H3
    isplitl [H2] <;> iassumption
  · rw [bigSep_sep', bigSep_sep']

/-- What the received blocks left, by kind. -/
theorem gB_split (c : Dev nD) : (bigSep nz (gB m c) : sProp 𝕄)
    ⊢ iprop((bigSep nz fun d : Fin 16 => OwnE c (rSl d)) ∗ bigSep nz fun d : Fin 16 => atPos ER (xCell 1 c d) 1 ∅ 0) := by
  refine (big_mono (Ψ := fun d : Fin 16 => iprop(OwnE c (rSl d) ∗ atPos ER (xCell 1 c d) 1 ∅ 0)) fun d _ => ?_).trans ?_
  · unfold gB
    iintro ⟨H1, H2⟩
    isplitl [H1]; · iexists _; iexact H1
    iexact H2
  · rw [bigSep_sep']

/-- After the last wait a device owns what its run must leave. -/
theorem chain_post (c : Dev nD) : iprop(ESt m K c (15 + 1) ∗ E10 m c ∗ kept m c) ⊢ PostSt m K c := by
  unfold ESt E10 kept PostSt scr semsW
  rw [cells_eq]
  iintro ⟨⟨HP, HO, HS⟩, ⟨HF, HgB, Hm0, HM, Hx, ⟨Hw, Hsw, Hg⟩, Hb, H3⟩, Hs0, Hr0, Hgr⟩
  ihave HS := (Seq_done (A := eA c) (B := eB m c)) $$ HS
  ihave HS := (eB_split m c) $$ HS
  icases HS with ⟨Hs, Hms, H02⟩
  ihave HgB := (gB_split m c) $$ HgB
  icases HgB with ⟨Hr, H1⟩
  isplitl [HP]; · iexact HP
  isplitl [HO]; · iexact HO
  isplitl [Hx]; · iexact Hx
  isplitl [HF]; · iapply (fin_out m c) $$ HF
  isplitl [Hg Hgr]
  · iapply (own_unshares c gM (wG m c))
    iapply (Entails.of_eq (g_split m c).symm)
    isplitl [Hg]; · iexact Hg
    iexact Hgr
  isplitl [Hw Hs0 Hs Hr0 Hr Hm0 Hms HM]
  · isplitl [Hw]
    · iapply (show (bigSep Finset.univ fun p : Fin 3 × Fin 4 => OwnE (F := F) c (wSl p.1 p.2) : sProp 𝕄) ⊢ OwnE c wM from slots_join c wM (fun p : Fin 3 × Fin 4 => rW p.1 p.2) (fun _ _ => rfl) rW_disj rW_cov) $$ Hw
    isplitl [Hs0 Hs]
    · iapply (join_s c); isplitl [Hs0] <;> iassumption
    isplitl [Hr0 Hr]
    · iapply (join_r c); isplitl [Hr0] <;> iassumption
    iapply (join_m c)
    isplitl [Hm0 Hms]
    · iexists (mx m c)
      iapply (own_unshares c (mSl 0) (mx m c))
      iapply (Entails.of_eq (off_zero (fun d : Fin 16 => Own c (mSl 0) (sh d) (mx m c))).symm)
      unfold mx0
      isplitl [Hm0] <;> iassumption
    unfold mxs
    iapply (big_mono (s := nz) (Φ := fun d : Fin 16 => Own c (mSl d) fullShare (mx m (c - d))) (Ψ := fun d : Fin 16 => OwnE c (mSl d)) (fun d _ => by iintro H; iexists _; iexact H)) $$ HM
  isplitl [Hsw]; · iexact Hsw
  unfold ends
  isplitl [Hb]; · iexact Hb
  unfold at3
  ihave HA := (Entails.of_eq (bigSep_sep' nz (fun d : Fin 16 => (atPos ER (xCell 1 c d) 1 ∅ 0 : sProp 𝕄)) (fun d : Fin 16 => (atPos ER (xCell 3 c d) 1 ∅ 0 : sProp 𝕄))).symm) $$ [H1 H3]
  · isplitl [H1] <;> iassumption
  ihave HA := (Entails.of_eq (bigSep_sep' nz (fun d : Fin 16 => (iprop(atPos ER (xCell 0 c d) 1 ∅ 0 ∗ atPos ER (xCell 2 c d) 1 ∅ 0) : sProp 𝕄)) (fun d : Fin 16 => (iprop(atPos ER (xCell 1 c d) 1 ∅ 0 ∗ atPos ER (xCell 3 c d) 1 ∅ 0) : sProp 𝕄))).symm) $$ [H02 HA]
  · isplitl [H02] <;> iassumption
  iapply (big_mono (s := nz) (fun d _ => by
    iintro ⟨⟨H0, H2⟩, H1, H3⟩
    isplitl [H0]; · iexact H0
    isplitl [H1]; · iexact H1
    isplitl [H2] <;> iassumption)) $$ HA

/-- The kernel's run on device `c`. -/
theorem body_run (c : Dev nD) : PreSt m K c ⊢ WP c (body F) fun _ => PostSt m K c := by
  have h : ∀ _ : PUnit.{1}, iprop(ESt m K c (15 + 1) ∗ E10 m c ∗ kept m c) ⊢ PostSt m K c := fun _ => chain_post m K c
  exact (pre_chain m K c).trans ((body_chain m K c (kept m c)).trans (Idealize.SL.Sem.wp_mono _ _ _ h))

end Cert.KernelProof
-- ==== Proof.Ghost.lean ====
/-
What the launch mints for the protocol between devices: the cells opened, the tokens dealt to the devices that pay them,
the credits.
-/
module

public import proofs.«01_k».proof.Proof.Ends

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
/-! ## The cells of a device, listed -/

/-- Different indices name different semaphores. -/
theorem csem_inj : Function.Injective csem := by
  intro x y h
  rcases x with _ | ⟨a, d⟩ <;> rcases y with _ | ⟨b, e⟩
  · rfl
  · exact absurd h (by unfold csem; intro h; cases h)
  · exact absurd h (by unfold csem; intro h; cases h)
  · have h' := congrArg kd (show (.dma (xS a d) : SemLoc sig) = .dma (xS b e) from h)
    rw [kd_x, kd_x] at h'
    cases h'; rfl

/-- Different indices name different cells. -/
theorem kcell_inj : Function.Injective kcell := by
  rintro ⟨c, k⟩ ⟨c', k'⟩ h
  have h1 : c = c' := congrArg (fun g : GSem nD τ sig => g.1.1) h
  have h2 : csem k = csem k' := congrArg Prod.snd h
  rw [h1, csem_inj h2]

/-- The cells other than the barrier's are those of the exchange. -/
theorem some_cells : (Finset.univ.erase none : Finset CI) = Finset.univ.map Function.Embedding.some := by decide +kernel

omit [FloatOps F] in
/-- A separating product over sixteen is the factor at zero and the others. -/
theorem off_zero' (Φ : Fin 16 → sProp 𝕄) : (bigSep Finset.univ Φ : sProp 𝕄) = iprop(Φ 0 ∗ bigSep nz Φ) := big_erase (Finset.mem_univ 0)

omit [FloatOps F] in
/-- A family over the four kinds of cell. -/
theorem four (Φ : Fin 4 → sProp 𝕄) : (bigSep Finset.univ Φ : sProp 𝕄) = iprop(Φ 0 ∗ Φ 1 ∗ Φ 2 ∗ Φ 3) :=
  bigSep_univ_eq_bigSepL [0, 1, 2, 3] (by decide) (by decide) Φ

omit [FloatOps F] in
/-- A family over a device's transfer cells: kind by kind, slot 0 apart. -/
theorem x_split (Φ : Fin 4 × Fin 16 → sProp 𝕄) : (bigSep Finset.univ Φ : sProp 𝕄)
    = iprop((bigSep Finset.univ fun a : Fin 4 => Φ (a, 0)) ∗ (bigSep nz fun d => Φ (0, d)) ∗ (bigSep nz fun d => Φ (1, d))
      ∗ (bigSep nz fun d => Φ (2, d)) ∗ bigSep nz fun d => Φ (3, d)) := by
  rw [bigSep_univ_prod, bigSep_congr (s := Finset.univ) (fun (a : Fin 4) _ => off_zero' (fun d => Φ (a, d))), bigSep_sep',
    four (fun a : Fin 4 => bigSep nz fun d => Φ (a, d))]

omit [FloatOps F] in
/-- A separating product over a device's cells is the barrier's factor and the exchange's. -/
theorem ci_split (Φ : CI → sProp 𝕄) : (bigSep Finset.univ Φ : sProp 𝕄)
    = iprop(Φ none ∗ bigSep Finset.univ fun p : Fin 4 × Fin 16 => Φ (some p)) := by
  rw [bigSep_univ_at Φ none, some_cells, bigSep_map]; rfl

/-! ## The kernel's own semaphores -/

abbrev OK : Type := (Fin 3 × Fin 4) ⊕ (Fin 4 × Fin 16)
abbrev osem : OK → SemLoc sig
  | .inl p => .dma (wS p.1 p.2)
  | .inr p => .dma (xS p.1 p.2)

/-- The kernel's own semaphores belong to the launch. -/
theorem own_scoped : ∀ k, (osem k).isScoped .tc = true := by decide +kernel
/-- None of the kernel's own semaphores stages a window. -/
theorem own_disj : ∀ k w s, osem k ≠ .dma ((cfg0.spec w).sem s) := by decide +kernel
/-- Different indices name different own semaphores. -/
theorem own_inj : Function.Injective osem := by
  have hw : ∀ p : Fin 3 × Fin 4, kd (osem (.inl p)) = .off := fun p => kd_w p.1 p.2
  have hx : ∀ p : Fin 4 × Fin 16, kd (osem (.inr p)) = .x p.1 p.2 := fun p => kd_x p.1 p.2
  rintro (p | p) (q | q) h
  · have h' : (wS p.1 p.2).val = (wS q.1 q.2).val := congrArg Fin.val (SemLoc.dma.inj h)
    have h1 : 2 + 4 * p.1.val + p.2.val = 2 + 4 * q.1.val + q.2.val := h'
    have := p.2.isLt; have := q.2.isLt
    exact congrArg Sum.inl (Prod.ext (Fin.ext (by omega)) (Fin.ext (by omega)))
  · have h' := congrArg kd h; rw [hw, hx] at h'; cases h'
  · have h' := congrArg kd h; rw [hw, hx] at h'; cases h'
  · have h' := congrArg kd h; rw [hx, hx] at h'; injection h' with h1 h2
    exact congrArg Sum.inr (Prod.ext h1 h2)
/-- What the launch asks of the kernel's own semaphores. -/
theorem ownSemFacts : Pipeline.OwnSemFacts cfg0.spec osem := ⟨own_scoped, own_inj, own_disj⟩

/-- The transfer semaphores at zero. -/
def semsX (c : Dev nD) : sProp 𝕄 := bigSep Finset.univ fun p : Fin 4 × Fin 16 => semVal (xCell p.1 c p.2) 0

omit [FloatOps F] in
/-- The own semaphores at launch, by kind. -/
theorem ownSems_eq (c : Dev nD) : (Pipeline.ownSems0 (Ix := Unit) (Name := ℕ) (U := UU) (Lvl := ℕ) (Val := Elt F) (τ := τ) osem c : sProp 𝕄)
    = iprop(semsW c ∗ semsX c) := by
  unfold Pipeline.ownSems0 semsW semsX
  rw [bigSep_univ_sum]
  rfl

omit [FloatOps F] in
/-- The only other semaphore is the barrier's. -/
theorem unscopedSems_eq (c : Dev nD) : (unscopedSems0 c : sProp 𝕄) = semVal (barCell c) 0 := by
  unfold unscopedSems0; rw [bigSep_eq_bigSepL_of_eq [SemLoc.reg barS] (by decide +kernel) (by decide)]; rfl

/-! ## What the launch mints -/

def ringCells : Finset (GSem nD τ sig) := Finset.univ.map ⟨kcell, kcell_inj⟩

abbrev TI : Type := Fin 16 ⊕ (Fin 4 × Fin 16)
abbrev tokOf (cj : Dev nD × TI) : GSem nD τ sig × ℕ × Fin 16 := match cj.2 with
  | .inl d => (barCell cj.1, 0, d)
  | .inr p => (xCell p.1 cj.1 p.2, 0, 0)

/-- Different duties have different tokens. -/
theorem tokOf_inj : Function.Injective tokOf := by
  rintro ⟨c, p | p⟩ ⟨c', q | q⟩ h
  · have h1 : c = c' := congrArg (fun x : GSem nD τ sig × ℕ × Fin 16 => x.1.1.1) h
    have h2 : p = q := congrArg (fun x : GSem nD τ sig × ℕ × Fin 16 => x.2.2) h
    rw [h1, h2]
  · have h2 : (.reg barS : SemLoc sig) = .dma (xS q.1 q.2) := congrArg (fun x : GSem nD τ sig × ℕ × Fin 16 => x.1.2) h
    cases h2
  · have h2 : (.dma (xS p.1 p.2) : SemLoc sig) = .reg barS := congrArg (fun x : GSem nD τ sig × ℕ × Fin 16 => x.1.2) h
    cases h2
  · have h1 : c = c' := congrArg (fun x : GSem nD τ sig × ℕ × Fin 16 => x.1.1.1) h
    have h2 := congrArg (fun x : GSem nD τ sig × ℕ × Fin 16 => kd x.1.2) h
    dsimp only [tokOf] at h2
    rw [kd_x, kd_x] at h2
    injection h2 with h3 h4
    rw [h1, Prod.ext h3 h4]

def ringToks : Finset (GSem nD τ sig × ℕ × Fin 16) := Finset.univ.map ⟨tokOf, tokOf_inj⟩

def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop((bigSep Finset.univ fun d : Fin 16 => dutyTok ER (barCell c) 0 d) ∗ bigSep Finset.univ fun p : Fin 4 × Fin 16 => dutyTok ER (xCell p.1 c p.2) 0 0)

/-- What the launch deals device `c`. -/
def G (c : Dev nD) : sProp 𝕄 :=
  iprop((bigSep Finset.univ fun k : CI => roundState ER (rd m) (kcell (c, k)) 0)
    ∗ (bigSep Finset.univ fun k : CI => iprop(atPos ER (kcell (c, k)) 0 ∅ 0 ∗ reached ER (kcell (c, k)) 0)) ∗ toks c)

/-- The starting state of the rounds is shared out to the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells opened -/

/-- Each device's cells can be put under their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (rd m) κ (kcell (c, k))))
          ∗ (bigSep Finset.univ fun k : CI => iprop(atPos ER (kcell (c, k)) 0 ∅ 0 ∗ reached ER (kcell (c, k)) 0)) ∗ toks c ∗ semsW c) := by
  unfold G
  rw [ownSems_eq, unscopedSems_eq]
  iintro ⟨⟨Hw, Hx⟩, Hb, Hst, Hat, Htok⟩
  imod (show iprop((bigSep Finset.univ fun k : CI => semVal (kcell (c, k)) 0) ∗ bigSep Finset.univ fun k : CI => roundState ER (rd m) (kcell (c, k)) 0)
      ⊢ (|={Set.univ}=> bigSep Finset.univ fun k : CI => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hb Hx Hst] with Hinv
  · isplitr [Hst]
    · rw [ci_split]
      isplitl [Hb]; · iexact Hb
      unfold semsX
      iexact Hx
    · iexact Hst
  imodintro
  isplitl [Hinv]; · iexact Hinv
  isplitl [Hat]; · iexact Hat
  isplitl [Htok] <;> iassumption

/-- The tokens of the duties device `c` pays. -/
def payToks (c : Dev nD) : sProp 𝕄 := iprop(barTok c ∗ tok1 c ∗ qTok c)

/-- A step round the ring. -/
def rot (d : Fin 16) : Dev nD ≃ Dev nD := ⟨fun c => c + d, fun c => c - d, fun c => by revert c d; decide +kernel, fun c => by revert c d; decide +kernel⟩

omit [FloatOps F] in
/-- A product over devices and distances may be taken in either order. -/
theorem swap_big (s : Finset (Fin 16)) (Φ : Dev nD → Fin 16 → sProp 𝕄) :
    (bigSep Finset.univ fun c : Dev nD => bigSep s (Φ c) : sProp 𝕄) = bigSep s fun d : Fin 16 => bigSep Finset.univ fun c : Dev nD => Φ c d := by
  induction s using Finset.induction_on with
  | empty => simp
  | insert i s hi ih => rw [BI.bigSep_insert hi, ← ih]; exact (bigSep_congr fun c _ => BI.bigSep_insert hi).trans (bigSep_sep' _ _ _)

omit [FloatOps F] in
/-- A family over devices and distances, re-indexed by the device at the distance. -/
theorem shift (Φ : Dev nD → Fin 16 → sProp 𝕄) :
    (bigSep Finset.univ fun c : Dev nD => bigSep nz (Φ c) : sProp 𝕄) = bigSep Finset.univ fun c : Dev nD => bigSep nz fun d : Fin 16 => Φ (c + d) d := by
  rw [swap_big, swap_big nz (fun (c : Dev nD) (d : Fin 16) => Φ (c + d) d)]
  exact bigSep_congr fun d _ => bigSep_univ_equiv (rot d) (fun c => Φ c d)

omit [FloatOps F] in
/-- Each token goes to the device that meets its duty. -/
theorem toks_around : (bigSep Finset.univ fun c : Dev nD => (toks c : sProp 𝕄)) ⊢ bigSep Finset.univ fun c : Dev nD => payToks c := by
  have hs (c : Dev nD) : (toks c : sProp 𝕄) ⊢ iprop((bigSep nz fun d : Fin 16 => dutyTok ER (barCell c) 0 d) ∗ (bigSep nz fun d : Fin 16 => dutyTok ER (xCell 0 c d) 0 0)
      ∗ (bigSep nz fun d : Fin 16 => dutyTok ER (xCell 1 c d) 0 0) ∗ (bigSep nz fun d : Fin 16 => dutyTok ER (xCell 2 c d) 0 0)
      ∗ bigSep nz fun d : Fin 16 => dutyTok ER (xCell 3 c d) 0 0) := by
    unfold toks
    rw [off_zero', x_split]
    iintro ⟨⟨-, Hb⟩, -, H⟩
    isplitl [Hb]; · iexact Hb
    iexact H
  have hs' := big_mono (s := Finset.univ) fun c _ => hs c
  rw [bigSep_sep', bigSep_sep', bigSep_sep', bigSep_sep', shift (fun c d => dutyTok ER (barCell c) 0 d), shift (fun c d => dutyTok ER (xCell 1 c d) 0 0), shift (fun c d => dutyTok ER (xCell 3 c d) 0 0)] at hs'
  unfold payToks barTok tok1 qTok
  simp only [bigSep_sep']
  iintro H
  ihave H := hs' $$ H
  icases H with ⟨Hb, H0, H1, H2, H3⟩
  isplitl [Hb]; · iexact Hb
  isplitl [H2 H3]
  · isplitl [H2] <;> iassumption
  isplitl [H0] <;> iassumption

/-- What the opening makes of it all, for device `c`. -/
def linear (c : Dev nD) : sProp 𝕄 :=
  iprop((bigSep Finset.univ fun k : CI => atPos ER (kcell (c, k)) 0 ∅ 0) ∗ payToks c ∗ semsW c)
def G' (c : Dev nD) : sProp 𝕄 := iprop(∃ K, records m K ∗ linear c)

omit [FloatOps F] in
/-- A persistent fact may be used in every factor of a product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What all devices allocate is regrouped by the device that uses it. -/
theorem regroup :
    (bigSep Finset.univ fun c : Dev nD => iprop((bigSep Finset.univ fun k : CI => iprop(∃ κ : ℕ, cellInv ER (rd m) κ (kcell (c, k))))
          ∗ (bigSep Finset.univ fun k : CI => iprop(atPos ER (kcell (c, k)) 0 ∅ 0 ∗ reached ER (kcell (c, k)) 0)) ∗ toks c ∗ semsW c) : sProp 𝕄)
      ⊢ bigSep Finset.univ (G' m) := by
  rw [bigSep_sep', bigSep_sep', bigSep_sep', ← bigSep_univ_prod (fun ck : Dev nD × CI => iprop(∃ κ : ℕ, cellInv ER (rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, Hw⟩
  ihave HK := (BI.bigSep_exists_pi Finset.univ (fun (ck : Dev nD × CI) (κ : ℕ) => (cellInv ER (rd m) κ (kcell ck) : sProp 𝕄))) $$ HI
  icases HK with ⟨%K, #HI⟩
  ihave Htk := (toks_around (F := F)) $$ Htok
  iapply (with_persistent (R := records m K) (Φ := linear) fun c _ => show iprop(records m K ∗ linear c) ⊢ G' m c from by
    unfold G'; iintro H; iexists K; iexact H)
  isplitr
  · unfold records; isplitl; · iexact HI
    iexact HR
  · unfold linear
    simp only [bigSep_sep']
    isplitl [Hat]; · iexact Hat
    isplitl [Htk] <;> iassumption

/-- The opening of every device's cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What all devices together owe a cell, of the debts to the devices at distances 1 to 15. -/
theorem total_tail (cell : Dev nD → Fin 16 → GSem nD τ sig) (N : ℕ) (g : GSem nD τ sig) :
    (∑ e : Dev nD, tail (fun d => (tallyAt (cell (e + d) d) () N : CellTallies nD τ sig Unit)) 1 g ())
      = ∑ d ∈ Finset.univ.filter (fun d : Fin 16 => 1 ≤ d.val), ∑ c : Dev nD, if g = cell c d then N else 0 := by
  have h (e : Dev nD) : tail (fun d => (tallyAt (cell (e + d) d) () N : CellTallies nD τ sig Unit)) 1 g ()
      = ∑ d ∈ Finset.univ.filter (fun d : Fin 16 => 1 ≤ d.val), if g = cell (e + d) d then N else 0 := by
    unfold tail
    rw [Finset.sum_apply, Finsupp.finset_sum_apply]
    exact Finset.sum_congr rfl fun d _ => by
      rw [tallyAt_apply]
      exact if_congr ⟨fun h => h.1, fun h => ⟨h, rfl⟩⟩ rfl rfl
  rw [Finset.sum_congr rfl fun e _ => h e, Finset.sum_comm]
  exact Finset.sum_congr rfl fun d _ => Equiv.sum_comp (rot d) (fun c => if g = cell c d then N else 0)

/-- A cell outside a family is owed nothing by that family. -/
theorem total_none (cell : Dev nD → Fin 16 → GSem nD τ sig) (N : ℕ) (g : GSem nD τ sig) (h : ∀ c d, g ≠ cell c d) :
    (∑ e : Dev nD, tail (fun d => (tallyAt (cell (e + d) d) () N : CellTallies nD τ sig Unit)) 1 g ()) = 0 := by
  rw [total_tail]
  exact Finset.sum_eq_zero fun d _ => Finset.sum_eq_zero fun c _ => if_neg (h c d)

/-- Each barrier is owed fifteen signals. -/
theorem total_bar (c : Dev nD) : (∑ e : Dev nD, OB e 1 (barCell c) ()) = 15 := by
  have h := total_tail (fun c _ => barCell c) 1 (barCell c)
  refine h.trans ?_
  have hi (d : Fin 16) : (∑ c' : Dev nD, if barCell c = barCell c' then 1 else 0) = 1 := by
    rw [Finset.sum_eq_single c (fun b _ hb => if_neg fun h => hb (congrArg (fun g : GSem nD τ sig => g.1.1) h).symm) (fun h => absurd (Finset.mem_univ c) h), if_pos rfl]
  rw [Finset.sum_congr rfl fun d _ => hi d]
  decide

/-- Each exchange semaphore is owed one copy. -/
theorem total_x (a : Fin 4) (N : ℕ) (c : Dev nD) (k : Fin 16) (hk : k ≠ 0) :
    (∑ e : Dev nD, tail (fun d => (tallyAt (xCell a (e + d) d) () N : CellTallies nD τ sig Unit)) 1 (xCell a c k) ()) = N := by
  rw [total_tail (fun c d => xCell a c d)]
  have hne : ∀ (b : Dev nD) (d : Fin 16), xCell a c k = xCell a b d → c = b ∧ k = d := fun b d h => by
    have h1 : c = b := congrArg (fun g : GSem nD τ sig => g.1.1) h
    have h2 := congrArg (fun g : GSem nD τ sig => kd g.2) h
    dsimp only at h2; rw [kd_x, kd_x] at h2; injection h2 with _ h3
    exact ⟨h1, h3⟩
  rw [Finset.sum_eq_single k (fun d _ hd => Finset.sum_eq_zero fun b _ => if_neg fun h => hd (hne b d h).2.symm)
    (fun h => absurd (Finset.mem_filter.mpr ⟨Finset.mem_univ k, Nat.one_le_iff_ne_zero.mpr fun h0 => hk (Fin.ext h0)⟩) h),
    Finset.sum_eq_single c (fun b _ hb => if_neg fun h => hb (hne b k h).1.symm) (fun h => absurd (Finset.mem_univ c) h), if_pos rfl]

/-- Exchange cells of different kinds differ. -/
theorem x_ne {a b : Fin 4} (h : a ≠ b) (c c' : Dev nD) (d d' : Fin 16) : xCell a c d ≠ xCell b c' d' := fun e => by
  have h2 := congrArg (fun g : GSem nD τ sig => kd g.2) e
  dsimp only at h2; rw [kd_x, kd_x] at h2; injection h2 with h3 _; exact h h3
/-- A barrier's cell is not an exchange cell. -/
theorem bar_ne_x (a : Fin 4) (c c' : Dev nD) (d : Fin 16) : barCell c ≠ xCell a c' d := fun e => by
  have h2 := congrArg Prod.snd e; cases h2

/-- What a cell is owed at launch, by kind. -/
theorem total_O₀ (g : GSem nD τ sig) : (∑ e : Dev nD, O₀ e g ()) = (∑ e : Dev nD, OQ e 1 g ()) + (∑ e : Dev nD, OM e 1 g ()) + ∑ e : Dev nD, OB e 1 g () := by
  rw [← Finset.sum_add_distrib, ← Finset.sum_add_distrib]
  rfl

/-- The credit a barrier's cell gets at launch. -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, total_O₀, total_bar]
  have h1 : (∑ e : Dev nD, OQ e 1 (barCell c) ()) = 0 := total_none (fun c d => xCell 1 c d) Nq (barCell c) fun c' d => bar_ne_x 1 c c' d
  have h2 : (∑ e : Dev nD, OM e 1 (barCell c) ()) = 0 := total_none (fun c d => xCell 3 c d) Nm (barCell c) fun c' d => bar_ne_x 3 c c' d
  rw [h1, h2]

/-- The credit a cell of the received maxima gets at launch. -/
theorem launch_m (c : Dev nD) (k : Fin 16) (hk : k ≠ 0) :
    tallyOn (xCell 3 c k) (launchCredit (Pipeline.owing O₀) 0 (xCell 3 c k)) = (tallyAt (xCell 3 c k) () Nm : CellTallies nD τ sig Unit) := by
  unfold tallyAt; refine congrArg _ (Finsupp.ext fun u => ?_); cases u
  rw [Pipeline.launchCredit_owing, Finsupp.single_eq_same, total_O₀]
  have h1 : (∑ e : Dev nD, OQ e 1 (xCell 3 c k) ()) = 0 := total_none (fun c d => xCell 1 c d) Nq _ fun c' d => x_ne (by decide) c c' k d
  have h2 : (∑ e : Dev nD, OB e 1 (xCell 3 c k) ()) = 0 := total_none (fun c _ => barCell c) 1 _ fun c' d => (bar_ne_x 3 c' c k).symm
  have h3 : (∑ e : Dev nD, OM e 1 (xCell 3 c k) ()) = Nm := total_x 3 Nm c k hk
  rw [h1, h2, h3, Nat.zero_add, Nat.add_zero]

/-- The credit a cell of the received codes gets at launch. -/
theorem launch_q (c : Dev nD) (k : Fin 16) (hk : k ≠ 0) :
    tallyOn (xCell 1 c k) (launchCredit (Pipeline.owing O₀) 0 (xCell 1 c k)) = (tallyAt (xCell 1 c k) () Nq : CellTallies nD τ sig Unit) := by
  unfold tallyAt; refine congrArg _ (Finsupp.ext fun u => ?_); cases u
  rw [Pipeline.launchCredit_owing, Finsupp.single_eq_same, total_O₀]
  have h1 : (∑ e : Dev nD, OM e 1 (xCell 1 c k) ()) = 0 := total_none (fun c d => xCell 3 c d) Nm _ fun c' d => x_ne (by decide) c c' k d
  have h2 : (∑ e : Dev nD, OB e 1 (xCell 1 c k) ()) = 0 := total_none (fun c _ => barCell c) 1 _ fun c' d => (bar_ne_x 1 c' c k).symm
  have h3 : (∑ e : Dev nD, OQ e 1 (xCell 1 c k) ()) = Nq := total_x 1 Nq c k hk
  rw [h1, h2, h3]; rfl

/-- The credits device `c` starts with. -/
def crs (c : Dev nD) : sProp 𝕄 := iprop(cred (tallyAt (barCell c) () 15) ∗ (bigSep nz fun d : Fin 16 => cred (tallyAt (xCell 1 c d) () Nq))
  ∗ bigSep nz fun d : Fin 16 => cred (tallyAt (xCell 3 c d) () Nm))

omit [FloatOps F] in
/-- A device's credit at launch, cell by cell. -/
theorem creds (c : Dev nD) : (Pipeline.launchCred O₀ c : sProp 𝕄) ⊢ crs c := by
  have h : (Pipeline.launchCred O₀ c : sProp 𝕄) ⊢ bigSep Finset.univ fun k : CI => cred (tallyOn (kcell (c, k)) (launchCredit (Pipeline.owing O₀) 0 (kcell (c, k)))) := by
    unfold Pipeline.launchCred
    refine (bigSep_subset (Finset.subset_univ (Finset.univ.map ⟨csem, csem_inj⟩))).trans ?_
    rw [bigSep_map]
    exact fun x hx => hx
  rw [ci_split, x_split] at h
  unfold crs
  rw [← launch_bar]
  iintro H
  ihave H := h $$ H
  icases H with ⟨Hb, -, -, H1, -, H3⟩
  isplitl [Hb]; · iexact Hb
  isplitl [H1]
  · iapply (Entails.of_eq (bigSep_congr (s := nz) fun (d : Fin 16) hd => by rw [← launch_q c d (Finset.ne_of_mem_erase hd)]; rfl)) $$ H1
  · iapply (Entails.of_eq (bigSep_congr (s := nz) fun (d : Fin 16) hd => by rw [← launch_m c d (Finset.ne_of_mem_erase hd)]; rfl)) $$ H3

end Cert.KernelProof
-- ==== Proof.Launch.lean ====
/-
The kernel on sixteen devices: the launch, and the run of the whole program.
-/
module

public import proofs.«01_k».proof.Proof.Ghost
public import proofs.«01_k».proof.Proof.Gen.KernelIdeal.Points
public import Idealize.ShloMosaic.Lib.Pipeline.CollectiveSegs
public import Idealize.ShloMosaic.Lib.Pipeline.Quiescent

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)
variable (m : (ℓ : Loc nD τ sig) → Buf (Elt F) ℓ) (ρ : Dev nD → PrngReg)

def s₀ : MemSt nD τ sig (Elt F) := ⟨m, fun _ => 0, ρ⟩

/-! ## What the kernel holds before and after -/

/-- What device `c`'s kernel starts from, beside its arrays. -/
def start (c : Dev nD) : sProp 𝕄 := iprop(G' m c ∗ crs c ∗ levAts L lv ∗ Own c gM fullShare (wG m c))
def Φ₀ (c : Dev nD) : sProp 𝕄 := iprop(start m c ∗ scr c)
def Φ₁ (c : Dev nD) : sProp 𝕄 := iprop(Own c gM fullShare (wG m c) ∗ scr c ∗ Pipeline.ownSems0 osem c ∗ unscopedSems0 c)

/-- The positions on the cells of slot 0, which take part in nothing. -/
def at0 (c : Dev nD) : sProp 𝕄 := bigSep Finset.univ fun a : Fin 4 => atPos ER (xCell a c 0) 0 ∅ 0

/-- What the launch gives a device is what its body starts from. -/
theorem start_pre (c : Dev nD) : iprop(Φ₀ m c ∗ OW c (O₀ c) ∗ xIn m c ∗ OwnE c oM) ⊢ (iprop(∃ K, PreSt m K c ∗ at0 c) : sProp 𝕄) := by
  unfold Φ₀ start G' linear payToks crs
  rw [ci_split, x_split]
  iintro ⟨⟨⟨⟨%K, #HR, ⟨Hb, H0, A0, A1, A2, A3⟩, ⟨HtB, Ht1, HtQ⟩, Hw⟩, ⟨Cb, C1, C3⟩, #HL, Hg⟩, Hs⟩, HO, Hx, Ho⟩
  iexists K
  unfold PreSt at0 PP marks
  isplitr [H0]
  · isplitr
    · isplitr; · iexact HR
      iexact HL
    isplitl [HO]; · iexact HO
    isplitl [Hx]; · iexact Hx
    isplitl [Ho]; · iexact Ho
    isplitl [Hg]; · iexact Hg
    isplitl [Hs]; · iexact Hs
    isplitl [Hw]; · iexact Hw
    isplitl [HtB]; · iexact HtB
    isplitl [Ht1]; · iexact Ht1
    isplitl [HtQ]; · iexact HtQ
    isplitl [Cb]; · iexact Cb
    isplitl [Hb]; · iexact Hb
    isplitl [C3 A3]
    · iapply (show iprop((bigSep nz fun d : Fin 16 => cred (tallyAt (xCell 3 c d) () Nm)) ∗ bigSep nz fun d : Fin 16 => atPos ER (xCell 3 c d) 0 ∅ 0) ⊢ (bigSep nz (nA c) : sProp 𝕄)
        from Entails.of_eq (bigSep_sep' _ _ _).symm)
      isplitl [C3]; · iexact C3
      iexact A3
    isplitl [C1 A1]
    · iapply (show iprop((bigSep nz fun d : Fin 16 => cred (tallyAt (xCell 1 c d) () Nq)) ∗ bigSep nz fun d : Fin 16 => atPos ER (xCell 1 c d) 0 ∅ 0) ⊢ (bigSep nz (gA c) : sProp 𝕄)
        from Entails.of_eq (bigSep_sep' _ _ _).symm)
      isplitl [C1]; · iexact C1
      iexact A1
    iapply (show iprop((bigSep nz fun d : Fin 16 => atPos ER (xCell 0 c d) 0 ∅ 0) ∗ bigSep nz fun d : Fin 16 => atPos ER (xCell 2 c d) 0 ∅ 0) ⊢ (at02 c : sProp 𝕄)
      from Entails.of_eq (bigSep_sep' _ _ _).symm)
    isplitl [A0]; · iexact A0
    iexact A2
  · iexact H0

/-- A device's marks at the end, cell by cell. -/
def atEnd (c : Dev nD) (k : CI) : sProp 𝕄 := match k with
  | none => atPos ER (barCell c) 1 ∅ 0
  | some (a, d) => atPos ER (xCell a c d) (if d = 0 then 0 else 1) ∅ 0

/-- A cell at its end is closed at the value zero. -/
theorem close_one (K : Dev nD × CI → ℕ) (c : Dev nD) (k : CI) : iprop(PP m K ∗ atEnd c k) ⊢ |={Set.univ}=> (semVal (kcell (c, k)) 0 : sProp 𝕄) := by
  rcases k with _ | ⟨a, d⟩
  · unfold atEnd
    iintro ⟨HP, Ha⟩
    ihave HI := (inv_bar m K c) $$ HP
    iapply (Rounds.cell_close ER (rd m) (Set.mem_univ (K (c, none))) (fun h => h) (R := 1) (duties_later m (barCell c)))
    isplitl [HI]; · iexact HI
    iexact Ha
  · unfold atEnd
    iintro ⟨HP, Ha⟩
    ihave HI := (inv_x m K a c d) $$ HP
    iapply (Rounds.cell_close ER (rd m) (Set.mem_univ (K (c, some (a, d)))) (fun h => h) (R := if d = 0 then 0 else 1) (by
      by_cases h : d = 0
      · subst h; exact fun r _ => duties_x0 m c a r
      · rw [if_neg h]; exact duties_later m (xCell a c d)))
    isplitl [HI]; · iexact HI
    iexact Ha

omit [FloatOps F] in
/-- After the run every cell of a device is at its end. -/
theorem ends_cells (c : Dev nD) : iprop(ends c ∗ at0 c) ⊢ (bigSep Finset.univ (atEnd c) : sProp 𝕄) := by
  have hx (a : Fin 4) : (bigSep nz fun d : Fin 16 => atPos ER (xCell a c d) 1 ∅ 0) ⊢ (bigSep nz fun d : Fin 16 => atEnd c (some (a, d)) : sProp 𝕄) :=
    big_mono fun d hd => Entails.of_eq (by unfold atEnd; dsimp only; rw [if_neg (Finset.ne_of_mem_erase hd)])
  unfold ends
  rw [ci_split, x_split, bigSep_sep', bigSep_sep', bigSep_sep']
  iintro ⟨⟨Hb, H0, H1, H2, H3⟩, Hz⟩
  isplitl [Hb]; · unfold atEnd atB; iexact Hb
  isplitl [Hz]; · unfold at0 atEnd; iexact Hz
  isplitl [H0]; · iapply (hx 0) $$ H0
  isplitl [H1]; · iapply (hx 1) $$ H1
  isplitl [H2]; · iapply (hx 2) $$ H2
  iapply (hx 3) $$ H3

/-- Every cell closed: its semaphore at zero again. -/
theorem close_all (K : Dev nD × CI → ℕ) (c : Dev nD) : iprop(PP m K ∗ ends c ∗ at0 c) ⊢ |={Set.univ}=> (iprop(semVal (barCell c) 0 ∗ semsX c) : sProp 𝕄) := by
  have h : iprop(PP m K ∗ bigSep Finset.univ (atEnd c)) ⊢ |={Set.univ}=> (bigSep Finset.univ fun k : CI => semVal (kcell (c, k)) 0 : sProp 𝕄) :=
    (with_persistent (R := PP m K) (Φ := atEnd c) fun k _ => close_one m K c k).trans (bigSep_fupd _ _)
  rw [ci_split (fun k : CI => semVal (kcell (c, k)) 0)] at h
  iintro ⟨HP, He⟩
  ihave He := (ends_cells c) $$ He
  imod h $$ [HP He] with ⟨Hb, Hx⟩
  · isplitl [HP] <;> iassumption
  imodintro
  isplitl [Hb]; · iexact Hb
  unfold semsX
  iexact Hx

/-- What the body leaves, with every cell closed. -/
theorem post_end (K : Dev nD × CI → ℕ) (c : Dev nD) :
    iprop(PostSt m K c ∗ at0 c) ⊢ |={Set.univ}=> (iprop(Φ₁ m c ∗ OW c 0 ∗ xIn m c ∗ Own c oM fullShare (outAt m c)) : sProp 𝕄) := by
  unfold PostSt Φ₁
  rw [ownSems_eq, unscopedSems_eq]
  iintro ⟨⟨HP, HO, Hx, Ho, Hg, Hs, Hw, He⟩, H0⟩
  imod (close_all m K c) $$ [HP He H0] with ⟨Hb, HX⟩
  · isplitl [HP]; · iexact HP
    isplitl [He] <;> iassumption
  imodintro
  isplitl [Hg Hs Hw Hb HX]
  · isplitl [Hg]; · iexact Hg
    isplitl [Hs]; · iexact Hs
    isplitl [Hw HX]
    · isplitl [Hw] <;> iassumption
    iexact Hb
  isplitl [HO]; · iexact HO
  isplitl [Hx] <;> iassumption

/-- A run may carry what it does not use, and be followed by an update. -/
theorem run_around {c : Dev nD} (p : Prog (TpuEff nD τ sig (Elt F) Λ₀ .tc) PUnit) {P Q R Q' : sProp 𝕄} (h : P ⊢ WP c p fun _ => Q)
    (h2 : iprop(Q ∗ R) ⊢ |={Set.univ}=> Q') : iprop(P ∗ R) ⊢ WP c p fun _ => Q' :=
  (sep_mono_left h).trans ((Idealize.SL.Sem.wp_frame_r _ _ _).trans ((Idealize.SL.Sem.wp_mono _ _ _ fun _ => h2).trans (Idealize.SL.Sem.wp_fupd _ _ _ _ _)))

/-- A run's starting and final conditions may be restated. -/
theorem run_after {c : Dev nD} (p : Prog (TpuEff nD τ sig (Elt F) Λ₀ .tc) PUnit) {P Q P' Q' : sProp 𝕄} (h0 : P' ⊢ P) (h : P ⊢ WP c p fun _ => Q)
    (h2 : Q ⊢ Q') : P' ⊢ WP c p fun _ => Q' :=
  h0.trans (h.trans (Idealize.SL.Sem.wp_mono _ _ _ fun _ => h2))

/-- The kernel's run on device `c`, between what the launch gives and what it takes back. -/
theorem kernel_run (c : Dev nD) : iprop(Φ₀ m c ∗ OW c (O₀ c) ∗ xIn m c ∗ OwnE c oM) ⊢ WP c (body F) fun _ => iprop(Φ₁ m c ∗ OW c 0 ∗ xIn m c ∗ Own c oM fullShare (outAt m c)) := by
  iintro H
  ihave H := (start_pre m c) $$ H
  icases H with ⟨%K, H, H0⟩
  iapply (run_around (body F) (body_run m K c) (post_end m K c))
  isplitl [H] <;> iassumption

/-! ## The pipeline's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The rows of `x` are fetched. -/
theorem fetch_x : (cfg0.win (0 : Fin 2)).fetch t0_0 = true := fetch0_0 t0_0

/-- The body finds the rows of `x` in their stage. -/
theorem before_x (c : Dev nD) (d : (cfg0.win (0 : Fin 2)).block.Idx → Elt F (cfg0.win (0 : Fin 2)).elt) : (dats m ρ 0 c).before (0 : Fin 2) t0_0 d = xstg m c := by
  unfold Dat.before; rw [if_pos fetch_x]; rfl

/-- The staged windows before and after the kernel. -/
def stagedPre (c : Dev nD) : sProp 𝕄 := iprop(Φ₀ m c ∗ (dats m ρ 0 c).owesAt () t0_0.castSucc
  ∗ (∃ d, Own c xM fullShare ((dats m ρ 0 c).before (0 : Fin 2) t0_0 d)) ∗ (∃ d, Own c oM fullShare ((dats m ρ 0 c).before (1 : Fin 2) t0_0 d)))
def stagedPost (c : Dev nD) : sProp 𝕄 := iprop(Φ₁ m c ∗ (dats m ρ 0 c).owesAt () t0_0.succ ∗ Own c xM fullShare (xstg m c) ∗ Own c oM fullShare (outAt m c))

/-- The body's run from the staged arrays. -/
theorem staged_run (c : Dev nD) : stagedPre m ρ c ⊢ WP c (body F) fun _ => stagedPost m ρ c := by
  have h0 : stagedPre m ρ c ⊢ (iprop(Φ₀ m c ∗ OW c (O₀ c) ∗ xIn m c ∗ OwnE c oM) : sProp 𝕄) := by
    unfold stagedPre OW xIn
    iintro ⟨H, ⟨%W, -, HO⟩, ⟨%d, Hx⟩, ⟨%e, Ho⟩⟩
    isplitl [H]; · iexact H
    isplitl [HO]; · iexists W; iexact HO
    isplitl [Hx]; · rw [before_x]; iexact Hx
    iexists _; iexact Ho
  have h1 : iprop(Φ₁ m c ∗ OW c 0 ∗ xIn m c ∗ Own c oM fullShare (outAt m c)) ⊢ stagedPost m ρ c := by
    unfold stagedPost OW xIn
    iintro ⟨H, ⟨%W, HO⟩, Hx, Ho⟩
    isplitl [H]; · iexact H
    isplitl [HO]
    · iexists W
      isplitr; · ipureintro; exact fun _ _ => Or.inl trivial
      iexact HO
    isplitl [Hx] <;> iassumption
  exact run_after (body F) h0 (kernel_run m c) h1

/-- The program the pipeline calls at its point is the kernel's body. -/
theorem prog_eq (s : (w : Fin cfg0.W) → Fin (cfg0.win w).nbuf) : defs₀ (F := F) .tc cfg0.body (cfg0.bodyArgs t0_0 s) = body F := rfl

/-- The body does what the launch asks of it at its one point. -/
theorem body_obligation (c : Dev nD) : BodyObligation (dats (F := F) m ρ 0 c) (defs₀ (F := F)) 𝒱₀ () Set.univ := fun t => by
  rw [fin_N0 t, bigSep_W0, bigSep_W0]
  have h := staged_run m ρ c
  rw [prog_eq]
  revert h
  generalize body F = p
  intro h
  refine run_after p ?_ h ?_
  · exact fun x hx => hx
  · exact fun x hx => hx

/-! ## The run -/

/-- The windows' arrays are owned in full. -/
theorem share_eq (c : Dev nD) (w : Fin cfg0.W) : (dats m ρ 0 c).share w = fullShare := by unfold Dat.share; split <;> rfl

/-- What the launch holds outside the stages is what a device starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hg, Hlev, Hcr, -, HG⟩
  ihave Hc := (creds (F := F) c) $$ Hcr
  imodintro
  unfold start
  isplitl
  · isplitl [HG]; · iexact HG
    isplitl [Hc]; · iexact Hc
    isplitl [Hlev]; · iexact Hlev
    rw [own_whole]
    iexact Hg
  · iempintro

/-- The launch's other buffers are the kernel's scratch. -/
theorem scr_of_rest (c : Dev nD) : (Pipeline.scopedRest cfg0.spec c : sProp 𝕄) = scr c := by
  have he (b : Ref sig .tc) : (iprop(∃ f : Buf (Elt F) ((c : Thread nD τ).loc b), ((c : Thread nD τ).loc b) ↦{fullShare} f) : sProp 𝕄)
      = iprop(∃ X, Own c (Memref.whole b) fullShare X) := by
    congr 1; funext X; exact (own_whole c fullShare b X).symm
  rw [scopedRest0_eq]
  unfold scr
  rw [he cc0_scratch0, he cc0_scratch1, he cc0_scratch2, he cc0_scratch3]
  rfl

/-- The condition before the one point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_of_rest]
  unfold Φ₀
  iintro ⟨Hs, -, Hr⟩
  isplitl [Hs] <;> iassumption

/-- What is left to read at the end: the weights, and the barrier's counter. -/
def fin (c : Dev nD) : sProp 𝕄 := iprop(Own c gM fullShare (wG m c) ∗ unscopedSems0 c)

/-- What the condition after the one point gives back. -/
theorem phi1_exit (c : Dev nD) :
    (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m c from rfl, scr_of_rest]
  unfold Φ₁ fin
  iintro ⟨Hg, Hs, Ho, Hu⟩
  isplitl [Hg Hu]
  · isplitl [Hg] <;> iassumption
  isplitl [Ho] <;> iassumption

/-- A stage's semaphore takes no part in the rounds. -/
theorem stage_off : ∀ (w : Fin cfg0.W) (s : Fin (cfg0.win w).nbuf), kd (.dma ((cfg0.win w).sem s)) = .off := by decide +kernel

/-- The launch may wait for its own copies. -/
theorem waits (c : Dev nD) : (levAts L lv : sProp 𝕄) ⊢ Pipeline.cellsWaits cfgs (dats m ρ) () 0 c :=
  Pipeline.cellsWaits_intro cfgs (dats m ρ) () 0 c fun w s t =>
    mayWait_above c _ 0 _ (by unfold lv; dsimp only; rw [show kd (.dma (((cfgs 0).win w).sem s)) = .off from stage_off w s]) (by
      rcases t with ⟨_ | _, ht⟩
      · exact above_O₀ c
      · exact above_zero 0)

def QY (c : Dev nD) (s : MemSt nD τ sig (Elt F)) : Prop :=
  s.mem ((c : Thread nD τ).loc main_arg1) = m ((c : Thread nD τ).loc main_arg1) ∧ ∀ sm : SemLoc sig, sm.isScoped .tc = false → s.sem ((c.tc : Thread nD τ), sm) = 0

/-- What a device holds at the end says what its memory holds. -/
theorem read_fin (c : Dev nD) (s' : Phys nD τ sig (Elt F)) : iprop(fin m c ∗ emp ∗ SI s') ⊢ |={Set.univ}=> iprop(⌜QY m c s'.mem⌝ ∗ SI s') := by
  unfold fin
  rw [own_whole]
  iintro ⟨⟨Hg, Hu⟩, -, HSI⟩
  icombine HSI Hg gives %hg
  imod (Pipeline.unscopedSems0_read (X := unscopedSems0 c) (c := c) fupd_intro s') $$ [Hu HSI] with ⟨%hu, HSI⟩
  · isplitl [Hu] <;> iassumption
  imodintro
  isplitr
  · ipureintro
    exact ⟨funext fun i => hg i (Finset.mem_univ i), hu⟩
  iexact HSI

/-- The array of window `w` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- The kernel's part of the launch element. -/
theorem ring_part : (BI.own (embR (initOf ringCells ringToks, (1 : Counters))) : sProp 𝕄) ⊢ BI.own (ER (initOf ringCells ringToks)) := fun _ h => h

/-- The entry function is the one call of the kernel. -/
theorem main_eq (c : Dev nD) : main (F := F) c = .op (.customCall (Pipeline.entry (0 : Fin 1)) ()) fun _ => .ret ⟨⟩ := rfl

set_option maxRecDepth 200000 in
/-- For any float values, from any memory with zero counters: every weakly fair execution on the sixteen devices
    terminates, and ends with the result arrays at the contents computed, the weights unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := main_eq)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := ring_part $$ HX
      imod (fund_ring m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m ρ) (hout := phi1_exit m ρ)
    (QY := QY m)
    (hY := read_fin m)
    (hQ := fun _ h hs => ⟨fun c => ⟨fun w => (h c).1 w, (h c).2.2.1⟩, sem_eq_zero hs fun c => (h c).2.2.2⟩)

/-- `x` ends as it began. -/
theorem finalA_x (c : Dev nD) : finalA m ρ c (0 : Fin 2) = m ((c : Thread nD τ).loc main_arg0) :=
  (dats (F := F) m ρ 0 c).arrAt_in (0 : Fin 2) rfl _

/-- At any float values the kernel terminates, leaves its arguments as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 (0 : Fin 2)).trans (finalA_x m ρ c), (h.1 c).2⟩, h.2⟩) (run_main m ρ)

end Cert.KernelProof
-- ==== Proof.Same.lean ====
/-
The kernel and its idealization are the same text: their tables of functions are equal.
-/
module

public import proofs.«01_k».proof.Proof.Gen.Kernel
public import proofs.«01_k».proof.Proof.Launch
public import proofs.«01_k».proof.Defs

@[expose] public section

set_option maxRecDepth 200000

noncomputable section

namespace Cert.KernelProof

open Idealize.ShloMosaic Idealize.ShloMosaic.TcCoe Idealize.SL.Sem

variable {F : FTy → Type} [FloatOps F]

/-- The bodies of the two programs are equal. -/
theorem body_same : Kernel.cc0_body (F := F) = KernelIdeal.cc0_body (F := F) := rfl

/-- So are their tables of bodies. -/
theorem tab_same : Kernel.defs₀ (F := F) = KernelIdeal.defs₀ (F := F) := by
  unfold Kernel.defs₀ KernelIdeal.defs₀
  refine congrArg Defs.onTc ?_
  funext l x
  match l, x with
  | 0, (t, s) => rfl

/-- And so are their whole tables. -/
theorem defs_same : Kernel.defs (F := F) = KernelIdeal.defs (F := F) := by
  unfold Kernel.defs KernelIdeal.defs
  exact congrArg (Pipeline.defs _) tab_same

/-- The kernel at machine words terminates, leaves its arguments as they were and every counter at zero. -/
theorem frame_kernel : Cert.quiescent_Kernel := fun m ρ _ => by
  rw [defs_same]
  exact frame_main (F := Bits) m ρ

/-- The same of the kernel at the extended reals. -/
theorem frame_kernel_ideal : Cert.quiescent_KernelIdeal := fun m ρ _ => frame_main (F := Ideal) m ρ

end Cert.KernelProof

end
-- ==== Proof.Scalar.lean ====
/-
Arithmetic of the quantiser on the extended reals, and maxima as least upper bounds.
-/
module

public import Idealize.ShloMosaic.PureOps.Ideal.Laws
public import Idealize.ShloMosaic.Lib.ValueIdx

@[expose] public section

noncomputable section

namespace Cert.KernelProof

open Idealize.ShloMosaic

/-- The literal 448. -/
theorem lit_448 : Ideal.ofBits .f32 0x43E00000#32 = ((448 : ℝ) : EReal) := by
  simp [Ideal.ofBits, Ideal.ieee]
  rw [← EReal.coe_mul]
  congr 1
  norm_num

/-- The literal −448. -/
theorem lit_neg448 : Ideal.ofBits .f32 0xC3E00000#32 = ((-448 : ℝ) : EReal) := by
  simp [Ideal.ofBits, Ideal.ieee]
  rw [← EReal.coe_mul]
  congr 1
  norm_num

/-- The literal −∞. -/
theorem lit_bot : Ideal.ofBits .f32 0xFF800000#32 = ⊥ := by
  simp [Ideal.ofBits, Ideal.ieee]

/-- A quotient of reals. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- Quantising by multiplication with `448 / g` and back with `g / 448` gives what dividing by `g / 448`, clipping at ±448
    and multiplying back gives, for every `y` between zero and `g`, infinities included. -/
theorem quant_eq (y g : EReal) (hy : 0 ≤ y) (hg : y ≤ g) :
    y * Ideal.div ((448 : ℝ) : EReal) g * Ideal.div g ((448 : ℝ) : EReal)
      = min ((448 : ℝ) : EReal) (max ((-448 : ℝ) : EReal) (Ideal.div y (Ideal.div g ((448 : ℝ) : EReal)))) * Ideal.div g ((448 : ℝ) : EReal) := by
  have h448 : (448 : ℝ) ≠ 0 := by norm_num
  have hpos : (0 : ℝ) < 448 := by norm_num
  induction g using EReal.rec with
  | bot => exact absurd (hy.trans hg) (by simp)
  | top =>
    have ht : Ideal.div (⊤ : EReal) ((448 : ℝ) : EReal) = ⊤ := by
      unfold Ideal.div
      rw [if_neg (by exact_mod_cast h448), ← EReal.coe_inv, EReal.top_mul_coe_of_pos (inv_pos.mpr hpos)]
    have h0 (x : EReal) : Ideal.div x (⊤ : EReal) = 0 := by
      unfold Ideal.div
      rw [if_neg (by simp), EReal.inv_top, mul_zero]
    rw [ht, h0, h0, mul_zero, zero_mul]
    have : max ((-448 : ℝ) : EReal) 0 = 0 := max_eq_right (by exact_mod_cast (by linarith : (-448 : ℝ) ≤ 0))
    rw [this, min_eq_right (by exact_mod_cast hpos.le), zero_mul]
  | coe g =>
    induction y using EReal.rec with
    | bot => exact absurd hy (by simp)
    | top => exact absurd hg (by simp)
    | coe y =>
      have hy' : 0 ≤ y := by exact_mod_cast hy
      have hg' : y ≤ g := by exact_mod_cast hg
      by_cases hz : g = 0
      · subst hz
        have : y = 0 := le_antisymm hg' hy'
        subst this
        rw [div_real 0 448 h448, zero_div]
        simp
      · have hgp : 0 < g := lt_of_le_of_ne (hy'.trans hg') (Ne.symm hz)
        rw [div_real 448 g hz, div_real g 448 h448, div_real y (g / 448) (div_ne_zero hz h448)]
        have hle : y / (g / 448) ≤ 448 := by
          rw [div_le_iff₀ (by positivity), mul_div_cancel₀ _ h448]
          exact hg'
        have hge : (-448 : ℝ) ≤ y / (g / 448) := by
          have : 0 ≤ y / (g / 448) := by positivity
          linarith
        rw [max_eq_right (by exact_mod_cast hge), min_eq_right (by exact_mod_cast hle), ← EReal.coe_mul, ← EReal.coe_mul, ← EReal.coe_mul]
        congr 1
        field_simp

end Cert.KernelProof

end
-- ==== Proof.KValue.lean ====
/-
The kernel's result as a function of the arguments.
-/
module

public import proofs.«01_k».proof.Proof.Launch
public import proofs.«01_k».proof.Proof.Scalar
public import Idealize.ShloMosaic.Lib.MatmulPlain
public import Idealize.ShloMosaic.Lib.Pipeline.Value

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)
open Idealize.ShloMosaic.ValueIdx (ix2 ix3)

section AnyValues
variable (m : (ℓ : Loc nD τ sig) → Buf (Elt F) ℓ) (ρ : Dev nD → PrngReg)

/-- The staged rows of `x` are the rows in memory. -/
theorem xstg_eq (c : Dev nD) (i : S256x4096.Idx) : xstg m c i = m ((c : Thread nD τ).loc main_arg0) i := by
  unfold xstg
  refine congrArg (m ((c : Thread nD τ).loc main_arg0)) (funext fun a => Fin.ext ?_)
  fin_cases a
  · show 0 * 256 + 1 * (i 0).val = (i 0).val
    omega
  · show 0 * 4096 + 1 * (i 1).val = (i 1).val
    omega

/-- The result's window covers its array, index by index. -/
theorem emb_o (i : S4096x512.Idx) : ((cfg0.win (1 : Fin 2)).blk t0_0).view.emb i = i := by
  refine funext fun a => Fin.ext ?_
  fin_cases a
  · show 0 * 4096 + 1 * (i 0).val = (i 0).val
    omega
  · show 0 * 512 + 1 * (i 1).val = (i 1).val
    omega

/-- The result's array after the run. -/
theorem finalA_o (c : Dev nD) : finalA m ρ c (1 : Fin 2) = outAt m c := by
  refine (dats (F := F) m ρ 0 c).arrAt_eq_of_cover (1 : Fin 2) (outAt m c) ?_ ?_
  · intro t _
    rw [fin_N0 t]
    funext i
    exact congrArg (outAt m c) (emb_o i).symm
  · intro i
    refine ⟨t0_0, flush0_1 t0_0, ?_⟩
    have h := View.emb_mem_set ((cfg0.win (1 : Fin 2)).blk t0_0).view i
    exact (emb_o i) ▸ h

/-- The run with the result's array named. -/
theorem run_value : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 (1 : Fin 2)).trans (finalA_o m ρ c), ((h.1 c).1 (0 : Fin 2)).trans (finalA_x m ρ c), (h.1 c).2⟩) (run_main m ρ)

/-- A chunk of the rows of `x` at an index. -/
theorem xv_apply (c : Dev nD) (j : Fin 4) (r : Fin 256) (k : Fin 1024) :
    xv m c j (ix2 r k) = m ((c : Thread nD τ).loc main_arg0) (ix2 r (⟨1024 * j.val + k.val, by omega⟩ : Fin 4096)) := by
  unfold xv
  rw [xstg_eq]
  refine congrArg (m ((c : Thread nD τ).loc main_arg0)) (funext fun a => Fin.ext ?_)
  fin_cases a
  · show 0 + 1 * r.val = r.val
    omega
  · show 1024 * j.val + 1 * k.val = 1024 * j.val + k.val
    omega

/-- A chunk of a tile of the weights at an index. -/
theorem wv_apply (c : Dev nD) (t : Fin 16) (j : Fin 4) (k : Fin 1024) (q : Fin 512) (h : S1x1024x512.ShapeCasts S1024x512) :
    shapeCast S1024x512 (wv m c t j) h (ix2 k q)
      = m ((c : Thread nD τ).loc main_arg1) (ix2 (⟨1024 * j.val + k.val, by omega⟩ : Fin 4096) (⟨512 * t.val + q.val, by omega⟩ : Fin 8192)) := by
  unfold wv
  rw [shapeCast_shapeCast]
  refine congrArg (m ((c : Thread nD τ).loc main_arg1)) (funext fun a => Fin.ext ?_)
  fin_cases a
  · show 1024 * j.val + 1 * k.val = 1024 * j.val + k.val
    omega
  · show 512 * t.val + 1 * q.val = 512 * t.val + q.val
    omega

end AnyValues

/-! ## At the extended reals -/

/-- A fold of `max` over a list is at most `b` exactly if the start and every member are. -/
theorem foldl_max_le {α : Type} (f : α → EReal) (b : EReal) : ∀ (l : List α) (z : EReal),
    l.foldl (fun a d => max a (f d)) z ≤ b ↔ z ≤ b ∧ ∀ d ∈ l, f d ≤ b
  | [], z => by simp
  | x :: l, z => by
    rw [List.foldl_cons, foldl_max_le f b l, max_le_iff, List.forall_mem_cons, and_assoc]

/-- A sum over 4096 positions in four chunks of 1024. -/
theorem sum_chunks (f : Fin 4096 → EReal) :
    ∑ k : Fin 4096, f k = ((∑ k : Fin 1024, f ⟨1024 * (0 : Fin 4).val + k.val, by omega⟩ + ∑ k : Fin 1024, f ⟨1024 * (1 : Fin 4).val + k.val, by omega⟩)
      + ∑ k : Fin 1024, f ⟨1024 * (2 : Fin 4).val + k.val, by omega⟩) + ∑ k : Fin 1024, f ⟨1024 * (3 : Fin 4).val + k.val, by omega⟩ := by
  have h : ∑ k : Fin 4096, f k = ∑ j : Fin 4, ∑ k : Fin 1024, f ⟨1024 * j.val + k.val, by omega⟩ := by
    rw [← Fintype.sum_prod_type', ← Equiv.sum_comp (finProdFinEquiv (m := 4) (n := 1024))]
    refine Finset.sum_congr rfl fun p _ => congrArg f (Fin.ext ?_)
    show p.2.val + 1024 * p.1.val = 1024 * p.1.val + p.2.val
    omega
  rw [h, Fin.sum_univ_four]

variable (m : (ℓ : Loc nD τ sig) → Buf (Elt Ideal) ℓ)

/-- Entry `(r, k)` of device `c`'s rows of `x`. -/
def xE (c : Dev nD) (r : Fin 256) (k : Fin 4096) : EReal := m ((c : Thread nD τ).loc main_arg0) (ix2 r k)
/-- Entry `(k, n)` of the weights device `c` holds. -/
def wE (c : Dev nD) (k : Fin 4096) (n : Fin 8192) : EReal := m ((c : Thread nD τ).loc main_arg1) (ix2 k n)
/-- The rectified product at row `r` of device `c` and column `n`. -/
def prodE (c : Dev nD) (r : Fin 256) (n : Fin 8192) : EReal := max (∑ k : Fin 4096, xE m c r k * wE m c k n) 0

/-- One chunk's product. -/
theorem chunk_apply (A : FVec Ideal S256x1024 .f32) (B : FVec Ideal S1024x512 .f32) (r : Fin 256) (q : Fin 512) :
    matmul dot_S256x1024_S1024x512_S256x512_1_0_0_1_n_n none A B (constant S256x512 .f32 0x00000000#32) (ix2 r q) = ∑ k : Fin 1024, A (ix2 r k) * B (ix2 k q) := by
  rw [show (dot_S256x1024_S1024x512_S256x512_1_0_0_1_n_n : DotDims S256x1024 S1024x512 S256x512) = DotDims.plain 256 1024 512 from rfl]
  refine (Ideal.matmul_plain_apply none A B _ r q).trans ?_
  show Ideal.ofBits .f32 0x00000000#32 + _ = _
  rw [Ideal.ofBits_zero_f32, zero_add]

/-- One chunk's product in terms of the arguments. -/
theorem chunk_eq (c : Dev nD) (t : Fin 16) (j : Fin 4) (h : S1x1024x512.ShapeCasts S1024x512) (r : Fin 256) (q : Fin 512) :
    matmul dot_S256x1024_S1024x512_S256x512_1_0_0_1_n_n none (xv m c j) (shapeCast S1024x512 (wv m c t j) h : FVec Ideal S1024x512 .f32) (constant S256x512 .f32 0x00000000#32) (ix2 r q)
      = ∑ k : Fin 1024, xE m c r ⟨1024 * j.val + k.val, by omega⟩ * wE m c ⟨1024 * j.val + k.val, by omega⟩ ⟨512 * t.val + q.val, by omega⟩ :=
  (chunk_apply _ _ r q).trans (Finset.sum_congr rfl fun k _ => congrArg₂ (fun a b : EReal => a * b) (xv_apply m c j r k) (wv_apply m c t j k q h))

/-- A tile at an index. -/
theorem yv_apply (c : Dev nD) (t : Fin 16) (r : Fin 256) (q : Fin 512) :
    yv m c t (ix2 r q) = prodE m c r ⟨512 * t.val + q.val, by omega⟩ := by
  unfold yv prodE
  rw [sum_chunks]
  unfold k0_pay3 k0_pay1 k0_pay2
  dsimp only
  simp only [shapeCast_self]
  show max (((matmul _ _ _ _ _ (ix2 r q) + matmul _ _ _ _ _ (ix2 r q)) + matmul _ _ _ _ _ (ix2 r q)) + matmul _ _ _ _ _ (ix2 r q)) (Ideal.ofBits .f32 0x00000000#32) = _
  rw [Ideal.ofBits_zero_f32]
  refine congrArg (fun a : EReal => max a 0) ?_
  exact congrArg₂ (fun a b : EReal => a + b) (congrArg₂ (fun a b : EReal => a + b) (congrArg₂ (fun a b : EReal => a + b)
    (chunk_eq m c t 0 _ r q) (chunk_eq m c t 1 _ r q)) (chunk_eq m c t 2 _ r q)) (chunk_eq m c t 3 _ r q)

/-- The product is nowhere negative. -/
theorem prodE_nonneg (c : Dev nD) (r : Fin 256) (n : Fin 8192) : 0 ≤ prodE m c r n := le_max_right _ _

/-- A maximum over every position of a vector is at most `b` exactly if every entry is. -/
theorem redmax_le {s t : Shape} {axes : List (Fin s.rank)} (src : FVec Ideal s .f32) (h : s.Reduces axes t) (hφ) (hacc) (j : t.Idx)
    (hj : ∀ i, h.drop i = j) (b : EReal) : (multiReduction .maximumf axes t src 0xFF800000#32 h hφ hacc j : EReal) ≤ b ↔ ∀ i, (src i : EReal) ≤ b := by
  rw [multiReduction_maximumf_eq_fold, Finset.filter_true_of_mem fun i _ => hj i]
  refine (Finset.fold_max_le (s := Finset.univ) (f := src) (b := (Ideal.ofBits .f32 0xFF800000#32 : EReal)) b).trans ?_
  rw [lit_bot]
  exact ⟨fun h i => h.2 i (Finset.mem_univ i), fun h => ⟨bot_le, fun i _ => h i⟩⟩

/-- A vector of one entry has one index. -/
theorem idx_one (i j : S1.Idx) : i = j := funext fun a => Fin.ext (by
  have hi : (i a).val < S1.size a := (i a).isLt
  have hj : (j a).val < S1.size a := (j a).isLt
  have hs : S1.size a = 1 := by fin_cases a; rfl
  omega)

/-- A reshape keeps a bound over every entry. -/
theorem cast_le {s t : Shape} (v : s.Idx → EReal) (h : s.ShapeCasts t) (b : EReal) : (∀ i, shapeCast t v h i ≤ b) ↔ ∀ i, v i ≤ b :=
  (Shape.reshapeEquiv h).forall_congr fun _ => Iff.rfl

/-- A reshape at an index. -/
theorem cast_at {α : Type} {s t : Shape} (v : s.Idx → α) (h : s.ShapeCasts t) (j : t.Idx) : shapeCast t v h j = v (Shape.reshapeEquiv h j) := rfl

/-- A tile's maximum is at most `b` exactly if every entry is. -/
theorem mred_le (v : FVec Ideal S256x512 .f32) (b : EReal) : mred v ≤ b ↔ ∀ i, (v i : EReal) ≤ b := by
  unfold mred extractAt
  rw [cast_at _ shapeCasts_S1_S1x1x1]
  exact (redmax_le _ reduces_S1x256x512_S1 (.inl rfl) rfl _ (fun _ => idx_one _ _) b).trans (cast_le v shapeCasts_S256x512_S1x256x512 b)

/-- The largest of the gathered maxima is at most `b` exactly if every one is. -/
theorem gath_le (v : Vec Ideal S16x1x128 .f32) (b : EReal) : k0_pay66 v ≤ b ↔ ∀ i, (v i : EReal) ≤ b := by
  unfold k0_pay66 extractAt
  dsimp only
  rw [cast_at _ shapeCasts_S1_S1x1x1x1]
  exact (redmax_le _ reduces_S1x16x1x128_S1 (.inl rfl) rfl _ (fun _ => idx_one _ _) b).trans (cast_le v shapeCasts_S16x1x128_S1x16x1x128 b)

/-- The reciprocal step. -/
theorem pay67_eq (v : Vec Ideal S16x1x128 .f32) : k0_pay67 v = Ideal.div ((448 : ℝ) : EReal) (k0_pay66 v) := by
  unfold k0_pay67
  rw [← lit_448]
  generalize k0_pay66 v = g
  rfl

/-- The step. -/
theorem pay68_eq (v : Vec Ideal S16x1x128 .f32) : k0_pay68 v = Ideal.div (k0_pay66 v) ((448 : ℝ) : EReal) := by
  unfold k0_pay68
  rw [← lit_448]
  generalize k0_pay66 v = g
  rfl

/-- Every tile is met in the order of the devices. -/
theorem tile_met (c t : Fin 16) : ∃ d, d ∈ ([1, 2, 3, 4, 5, 6, 7, 8, 9, 10, 11, 12, 13, 14, 15, 0] : List (Fin 16)) ∧ c + d = t := by
  revert c t; decide
/-- Every device's maximum is gathered. -/
theorem dev_met (c s : Fin 16) : ∃ d : Fin 16, c - d = s := by
  revert c s; decide

/-- A device's maximum is at most `b` exactly if zero and every entry of its tiles are. -/
theorem macc_le (c : Dev nD) (b : EReal) : macc m c ≤ b ↔ 0 ≤ b ∧ ∀ t i, (yv m c t i : EReal) ≤ b := by
  refine (foldl_max_le (fun d => mred (yv m c (c + d))) b _ _).trans ?_
  have h0 : (Scalar.ofBits .f32 0x00000000#32 : Ideal .f32) = (0 : EReal) := Ideal.ofBits_zero_f32
  rw [h0]
  refine and_congr Iff.rfl ⟨fun h t i => ?_, fun h d _ => (mred_le _ b).2 (h _)⟩
  obtain ⟨d, hd, rfl⟩ := tile_met c t
  exact (mred_le _ b).1 (h d hd) i

/-- The largest of all entries, as device `c` finds it. -/
def gmax (c : Dev nD) : EReal := k0_pay66 (allM m c)

/-- The maximum is at most `b` exactly if every entry of the whole product is. -/
theorem gmax_le (c : Dev nD) (b : EReal) : gmax m c ≤ b ↔ ∀ s r n, prodE m s r n ≤ b := by
  refine (gath_le _ b).trans ⟨fun h s r n => ?_, fun h i => (macc_le m _ b).2 ⟨?_, fun t i => ?_⟩⟩
  · obtain ⟨d, hd⟩ := dev_met c s
    have h1 := h (ix3 d (0 : Fin 1) (0 : Fin 128))
    have h2 : macc m s ≤ b := hd ▸ h1
    have h3 := ((macc_le m s b).1 h2).2 ⟨n.val / 512, by omega⟩ (ix2 r ⟨n.val % 512, by omega⟩)
    rw [yv_apply] at h3
    have e : (⟨512 * (n.val / 512) + n.val % 512, by omega⟩ : Fin 8192) = n := Fin.ext (by show 512 * (n.val / 512) + n.val % 512 = n.val; omega)
    exact e ▸ h3
  · exact (prodE_nonneg m c 0 0).trans (h c 0 0)
  · have e := (congrArg (yv m _ t) (ValueIdx.eq_ix2 i)).trans (yv_apply m (c - ⟨(‹S16x1x128.Idx› 0).val, (‹S16x1x128.Idx› 0).isLt⟩) t (i 0) (i 1))
    exact (le_of_eq e).trans (h _ _ _)

/-- Every device finds the same maximum. -/
theorem gmax_dev (c s : Dev nD) : gmax m c = gmax m s := le_antisymm ((gmax_le m c _).2 ((gmax_le m s _).1 le_rfl)) ((gmax_le m s _).2 ((gmax_le m c _).1 le_rfl))

/-- Every entry is at most the maximum. -/
theorem prodE_le_gmax (c s : Dev nD) (r : Fin 256) (n : Fin 8192) : prodE m s r n ≤ gmax m c := (gmax_le m c _).1 le_rfl s r n

/-- The own block's scaling at an index. -/
theorem pay86_apply (a b : EReal) (v : FVec Ideal S256x512 .f32) (i : S256x512.Idx) : k0_pay86 (F := Ideal) a b v i = (v i : EReal) * a * b := by
  unfold k0_pay86
  rw [shapeCast_self]
  rfl

/-- A received block's scaling at an index. -/
theorem pay87_apply (a b : EReal) (v : FVec Ideal S256x512 .f32) (i : S256x512.Idx) : k0_pay87 (F := Ideal) b (k0_pay69 (F := Ideal) a v) i = (v i : EReal) * a * b := by
  unfold k0_pay87 k0_pay69
  rw [shapeCast_shapeCast, shapeCast_self]
  rfl

/-- The step in terms of the maximum. -/
theorem scl_eq (c : Dev nD) : (scl m c : EReal) = Ideal.div (gmax m c) ((448 : ℝ) : EReal) := by
  unfold scl gmax
  exact pay68_eq _

/-- Every device's reciprocal step in terms of the maximum. -/
theorem inv_eq (c d : Dev nD) : (inv m d : EReal) = Ideal.div ((448 : ℝ) : EReal) (gmax m c) := by
  rw [gmax_dev m c d]
  unfold inv gmax
  exact pay67_eq _

/-- Device `c`'s result at row `256 s + r` and column `q`. -/
theorem outv_apply (c s : Dev nD) (r : Fin 256) (q : Fin 512) :
    outv m c s (ix2 r q) = prodE m s r ⟨512 * c.val + q.val, by have : c.val < 16 := c.isLt; omega⟩ * Ideal.div ((448 : ℝ) : EReal) (gmax m c) * Ideal.div (gmax m c) ((448 : ℝ) : EReal) := by
  have key : outv m c s (ix2 r q) = (yv m s c (ix2 r q) : EReal) * inv m s * scl m c := by
    unfold outv
    split
    · next h =>
      rw [h]
      exact pay86_apply _ _ _ _
    · unfold qz
      exact pay87_apply _ _ _ _
  rw [key, scl_eq, inv_eq m c s, yv_apply]

end Cert.KernelProof
-- ==== Proof.RValue.lean ====
/-
The reference's result as a function of the arguments.
-/
module

public import proofs.«01_k».proof.Proof.Gen.ReferenceIdeal.Value
public import proofs.«01_k».proof.Proof.Scalar
public import Idealize.ShloMosaic.Lib.StackMember
public import Idealize.ShloMosaic.Lib.StableHlo.ReadAt

@[expose] public section

set_option maxRecDepth 16384

noncomputable section

namespace Cert.ReferenceProof

open Cert.ReferenceIdeal Cert.ReferenceIdeal.Gen Idealize.ShloMosaic Idealize.ShloMosaic.TcCoe Idealize.SL.Sem
open Cert.KernelProof (lit_448 lit_neg448 lit_bot quant_eq)

/-- The rectified product. -/
def reluP (x : FVec Ideal S4096x4096 .f32) (w : FVec Ideal S4096x8192 .f32) : FVec Ideal S4096x8192 .f32 :=
  maximumf (Host.dotGeneral dot_S4096x4096_S4096x8192_S4096x8192_1_0_0_1_n_n none x w) (broadcastInDim S4096x8192 ![] bcast_S_S4096x8192 (constant S_ .f32 0x00000000#32))
/-- The largest magnitude. -/
def amaxP (y : FVec Ideal S4096x8192 .f32) : FVec Ideal S_ .f32 :=
  Host.reduce FloatOps.maximumf (Host.absf y) (constant S_ .f32 0xFF800000#32) reducesTo_S4096x8192_S_d0_1 h_S_
/-- The step of the quantiser. -/
def stepP (y : FVec Ideal S4096x8192 .f32) : FVec Ideal S_ .f32 := Host.divf (amaxP y) (constant S_ .f32 0x43E00000#32)
/-- The quantised product. -/
def quantP (y : FVec Ideal S4096x8192 .f32) : FVec Ideal S4096x8192 .fp8e4m3 :=
  Host.convertf .fp8e4m3 (minimumf (broadcastInDim S4096x8192 ![] bcast_S_S4096x8192 (constant S_ .f32 0x43E00000#32))
    (maximumf (broadcastInDim S4096x8192 ![] bcast_S_S4096x8192 (constant S_ .f32 0xC3E00000#32)) (Host.divf y (broadcastInDim S4096x8192 ![] bcast_S_S4096x8192 (stepP y)))))

variable (m : (ℓ : Loc nD τ sig) → Buf (Elt Ideal) ℓ) (ρ : Dev nD → PrngReg)

/-- The quantised product as the region finds it. -/
theorem v9_eq (c : Dev nD) : V m c main_v9 = quantP (reluP (m ((c : Thread nD τ).loc main_arg0)) (m ((c : Thread nD τ).loc main_arg1))) := by
  unfold V
  after_reads_simp
  simp -implicitDefEqProofs only [StableHlo.TRef.toBuf, StableHlo.TRef.ofBuf, cast_cast, cast_eq]
  unfold quantP stepP amaxP reluP
  rfl

/-- The step as the region finds it. -/
theorem v10_eq (c : Dev nD) : V m c main_v10 = shapeCast S1x1 (stepP (reluP (m ((c : Thread nD τ).loc main_arg0)) (m ((c : Thread nD τ).loc main_arg1)))) shapeCasts_S_S1x1 := by
  unfold V
  after_reads_simp
  unfold stepP amaxP reluP
  rfl

/-- The rectified product at an index. -/
theorem reluP_apply (x : FVec Ideal S4096x4096 .f32) (w : FVec Ideal S4096x8192 .f32) (i : Fin 4096) (j : Fin 8192) :
    reluP x w (ValueIdx.ix2 i j) = max (∑ k : Fin 4096, (x (ValueIdx.ix2 i k) : EReal) * w (ValueIdx.ix2 k j)) (0 : EReal) := by
  unfold reluP
  rw [show (dot_S4096x4096_S4096x8192_S4096x8192_1_0_0_1_n_n : DotDims S4096x4096 S4096x8192 S4096x8192) = DotDims.plain 4096 4096 8192 from rfl]
  refine congrArg₂ (fun a b : EReal => max a b) (StackMember.dotGeneral_plain_apply none x w i j) ?_
  exact Ideal.ofBits_zero_f32

/-- The largest magnitude is at most `b` exactly if every magnitude is. -/
theorem amaxP_le (y : FVec Ideal S4096x8192 .f32) (j : S_.Idx) (b : EReal) : (amaxP y j : EReal) ≤ b ↔ ∀ i, max (y i : EReal) (-(y i : EReal)) ≤ b := by
  unfold amaxP
  rw [Host.reduce_eq_fold, Finset.filter_true_of_mem fun i _ => funext fun a => a.elim0]
  refine (Finset.fold_max_le (s := Finset.univ) (f := (Host.absf y)) (b := (Ideal.ofBits .f32 0xFF800000#32 : EReal)) b).trans ?_
  rw [lit_bot]
  exact ⟨fun h i => h.2 i (Finset.mem_univ i), fun h => ⟨bot_le, fun i _ => h i⟩⟩

/-- The step at its index. -/
theorem stepP_apply (y : FVec Ideal S4096x8192 .f32) (j : S_.Idx) : stepP y j = Ideal.div (amaxP y j) ((448 : ℝ) : EReal) := by
  unfold stepP
  rw [← lit_448]
  generalize amaxP y = g
  rfl

/-- The quantised product at an index. -/
theorem quantP_apply (y : FVec Ideal S4096x8192 .f32) (i : S4096x8192.Idx) :
    quantP y i = min ((448 : ℝ) : EReal) (max ((-448 : ℝ) : EReal) (Ideal.div (y i) (stepP y ValueIdx.ix0))) := by
  unfold quantP
  rw [← lit_448, ← lit_neg448]
  generalize stepP y = g
  have h : broadcastInDim S4096x8192 ![] bcast_S_S4096x8192 g i = g ValueIdx.ix0 := congrArg g (funext fun a => a.elim0)
  rw [← h]
  rfl

/-- The quantised product's window covers its array, index by index. -/
theorem emb_q (i : S4096x8192.Idx) : ((cfg0.win (0 : Fin 3)).blk t0_0).view.emb i = i := by
  refine funext fun a => Fin.ext ?_
  fin_cases a
  · show 0 * 4096 + 1 * (i 0).val = (i 0).val
    omega
  · show 0 * 8192 + 1 * (i 1).val = (i 1).val
    omega

/-- The result's window covers its array, index by index. -/
theorem emb_r (i : S4096x8192.Idx) : ((cfg0.win (2 : Fin 3)).blk t0_0).view.emb i = i := by
  refine funext fun a => Fin.ext ?_
  fin_cases a
  · show 0 * 4096 + 1 * (i 0).val = (i 0).val
    omega
  · show 0 * 8192 + 1 * (i 1).val = (i 1).val
    omega

/-- The only index of a one-by-one array. -/
theorem idx_unit (i j : S1x1.Idx) : i = j := funext fun a => Fin.ext (by
  have hi : (i a).val < S1x1.size a := (i a).isLt
  have hj : (j a).val < S1x1.size a := (j a).isLt
  have hs : S1x1.size a = 1 := by fin_cases a <;> rfl
  omega)

/-- What the quantised product's block reads. -/
theorem iblk_q (c : Dev nD) (i : S4096x8192.Idx) : iblk m c (0 : Fin 3) t0_0 i = V m c main_v9 i := by
  unfold iblk
  exact congrArg (V m c main_v9) (emb_q i)

/-- What the step's block reads. -/
theorem iblk_s (c : Dev nD) (i j : S1x1.Idx) : iblk m c (1 : Fin 3) t0_0 i = V m c main_v10 j := by
  unfold iblk
  exact congrArg (V m c main_v10) (idx_unit _ _)

/-- The result's array at an index, from the two arrays the region reads. -/
theorem arr_apply (c : Dev nD) (i : S4096x8192.Idx) (j : S1x1.Idx) (a b : EReal) (ha : V m c main_v9 i = a) (hb : V m c main_v10 j = b) :
    ((dats m 0 c).arrAt 2 cfg0.N i : EReal) = a * b := by
  have h := congrFun (Cert.ReferenceIdeal.Value.blocks2 m c t0_0 (flush0_2 t0_0)) i
  have h1 : (dats m 0 c).arrAt 2 cfg0.N i = ((cfg0.win 2).blk t0_0).view.read (Elt Ideal) ((dats m 0 c).arrAt 2 cfg0.N) i :=
    (congrArg ((dats m 0 c).arrAt 2 cfg0.N) (emb_r i)).symm
  rw [h1, h, Cert.ReferenceIdeal.Value.flushed2]
  show out0_2 (iblk m c 0 t0_0) (iblk m c 1 t0_0) i = _
  unfold out0_2
  rw [Cert.ReferenceIdeal.Value.canon2_eq]
  have e : r0_0.idx (Cert.ReferenceIdeal.Value.ix2_0 i) = i := by
    refine funext fun a => Fin.ext ?_
    fin_cases a
    · show 0 + 1 * (i 0).val = (i 0).val
      omega
    · show 0 + 1 * (i 1).val = (i 1).val
      omega
  refine congrArg₂ (fun a b : EReal => a * b) ?_ ((iblk_s m c _ j).trans hb)
  exact (congrArg (iblk m c (0 : Fin 3) t0_0) e).trans ((iblk_q m c i).trans ha)

/-- The reference's array after the run. -/
theorem final_apply (c : Dev nD) (i : S4096x8192.Idx) (y : FVec Ideal S4096x8192 .f32)
    (hy : y = reluP (m ((c : Thread nD τ).loc main_arg0)) (m ((c : Thread nD τ).loc main_arg1))) :
    ((dats m 0 c).arrAt 2 cfg0.N i : EReal) = min ((448 : ℝ) : EReal) (max ((-448 : ℝ) : EReal) (Ideal.div (y i) (Ideal.div (amaxP y ValueIdx.ix0) ((448 : ℝ) : EReal))))
      * Ideal.div (amaxP y ValueIdx.ix0) ((448 : ℝ) : EReal) := by
  have hs : (V m c main_v10 (ValueIdx.ix2 0 0) : EReal) = stepP y ValueIdx.ix0 := by
    rw [v10_eq, ← hy]
    exact congrArg (stepP y) (funext fun a => a.elim0)
  have hq : (V m c main_v9 i : EReal) = quantP y i := by
    rw [v9_eq, ← hy]
  rw [arr_apply m c i (ValueIdx.ix2 0 0) _ _ hq hs, quantP_apply, stepP_apply]

end Cert.ReferenceProof
-- ==== Proof.Algebra.lean ====
/-
The kernel's blocks against the reference's array, at the extended reals.
-/
module

public import proofs.«01_k».proof.Defs
public import proofs.«01_k».proof.Proof.KValue
public import proofs.«01_k».proof.Proof.RValue

@[expose] public section

set_option maxRecDepth 16384

noncomputable section

namespace Cert.KernelProof

open Idealize.ShloMosaic Idealize.ShloMosaic.TcCoe Idealize.SL.Sem
open Cert.ReferenceProof (reluP amaxP reluP_apply amaxP_le final_apply)

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The reference's first argument, the rows of `x`. -/
def xR : FVec Ideal ReferenceIdeal.S4096x4096 .f32 := m' (((0 : Dev ReferenceIdeal.nD).tc : Thread ReferenceIdeal.nD ReferenceIdeal.τ).loc ReferenceIdeal.main_arg0)
/-- The reference's second argument, the weights. -/
def wR : FVec Ideal ReferenceIdeal.S4096x8192 .f32 := m' (((0 : Dev ReferenceIdeal.nD).tc : Thread ReferenceIdeal.nD ReferenceIdeal.τ).loc ReferenceIdeal.main_arg1)

/-- Device `c` holds block `c` of the rows of `x`, and all of the weights. -/
def Split : Prop := ∀ c : Dev KernelIdeal.nD,
  m ((c.tc : Thread KernelIdeal.nD KernelIdeal.τ).loc KernelIdeal.main_arg0) = Layout.block ⟨2, ![256, 4096]⟩ ⟨2, ![4096, 4096]⟩ 0 16 c (xR m')
    ∧ m ((c.tc : Thread KernelIdeal.nD KernelIdeal.τ).loc KernelIdeal.main_arg1) = wR m'

variable {m m'}

/-- Row `r` of device `s`'s product is row `256 s + r` of the whole. -/
theorem prod_whole (h : Split m m') (s : Dev KernelIdeal.nD) (r : Fin 256) (n : Fin 8192) (i : Fin 4096) (hi : i.val = 256 * s.val + r.val) :
    prodE m s r n = reluP (xR m') (wR m') (ValueIdx.ix2 i n) := by
  rw [reluP_apply]
  unfold prodE
  refine congrArg (fun a : EReal => max a 0) (Finset.sum_congr rfl fun k _ => congrArg₂ (fun a b : EReal => a * b) ?_ ?_)
  · unfold xE
    rw [(h s).1, Layout.block_apply]
    refine congrArg (xR m') (funext fun a => Fin.ext ?_)
    fin_cases a
    · show s.val * 256 + r.val = i.val
      omega
    · rfl
  · unfold wE
    exact congrFun (h s).2 _

/-- The whole product is nowhere negative. -/
theorem whole_nonneg (i : Fin 4096) (n : Fin 8192) : (0 : EReal) ≤ reluP (xR m') (wR m') (ValueIdx.ix2 i n) := by
  rw [reluP_apply]
  exact le_max_right _ _

/-- The maximum every device finds is the reference's. -/
theorem gmax_whole (h : Split m m') (c : Dev KernelIdeal.nD) : gmax m c = amaxP (reluP (xR m') (wR m')) ValueIdx.ix0 := by
  have abs_eq : ∀ y : EReal, 0 ≤ y → max y (-y) = y := fun y hy => max_eq_left ((EReal.neg_le_zero.2 hy).trans hy)
  refine le_antisymm ((gmax_le m c _).2 fun s r n => ?_) ((amaxP_le _ _ _).2 fun i => ?_)
  · have hs : s.val < 16 := s.isLt
    have e := prod_whole h s r n ⟨256 * s.val + r.val, by omega⟩ rfl
    have k := (amaxP_le (reluP (xR m') (wR m')) ValueIdx.ix0 _).1 le_rfl (ValueIdx.ix2 ⟨256 * s.val + r.val, by omega⟩ n)
    rw [e]
    exact (le_max_left _ _).trans k
  · have hi : (i 0).val < 4096 := (i 0).isLt
    have e := prod_whole h ⟨(i 0).val / 256, by show (i 0).val / 256 < 16; omega⟩ ⟨(i 0).val % 256, by omega⟩ (i 1) (i 0)
      (by show (i 0).val = 256 * ((i 0).val / 256) + (i 0).val % 256; omega)
    rw [ValueIdx.eq_ix2 i]
    exact (le_of_eq ((abs_eq _ (whole_nonneg (i 0) (i 1))).trans e.symm)).trans (prodE_le_gmax m c _ _ _)

/-- Device `c`'s result is block `c` of the reference's columns. -/
theorem out_block (h : Split m m') (c : Dev KernelIdeal.nD) :
    outAt m c = Layout.block ⟨2, ![4096, 512]⟩ ⟨2, ![4096, 8192]⟩ 1 16 c ((ReferenceIdeal.Gen.dats m' 0 0).arrAt 2 ReferenceIdeal.cfg0.N) := by
  funext i
  have hi : (i 0).val < 4096 := (i 0).isLt
  have hj : (i 1).val < 512 := (i 1).isLt
  have hc : c.val < 16 := c.isLt
  have e1 : outAt m c i = outv m c ⟨(i 0).val / 256, by show (i 0).val / 256 < 16; omega⟩ (ValueIdx.ix2 (⟨(i 0).val % 256, by omega⟩ : Fin 256) (⟨(i 1).val, hj⟩ : Fin 512)) := by
    unfold outAt
    refine congrArg (outv m c _) (funext fun a => Fin.ext ?_)
    fin_cases a <;> rfl
  have e2 : (⟨512 * c.val + (i 1).val, by omega⟩ : Fin 8192) = ⟨512 * c.val + (⟨(i 1).val, hj⟩ : Fin 512).val, by show 512 * c.val + (i 1).val < 8192; omega⟩ := rfl
  rw [Layout.block_apply]
  have e3 : ∀ H : Layout.Tiles ⟨2, ![4096, 512]⟩ ⟨2, ![4096, 8192]⟩ 1 16, H.idx c i = ValueIdx.ix2 (⟨(i 0).val, hi⟩ : Fin 4096) (⟨512 * c.val + (i 1).val, by omega⟩ : Fin 8192) := by
    intro H
    refine funext fun a => Fin.ext ?_
    fin_cases a
    · rfl
    · show c.val * 512 + (i 1).val = 512 * c.val + (i 1).val
      omega
  rw [e3]
  refine e1.trans ((outv_apply m c _ _ _).trans (Eq.trans ?_ (final_apply m' 0 _ (reluP (xR m') (wR m')) rfl).symm))
  rw [gmax_whole h c]
  have e4 := prod_whole h ⟨(i 0).val / 256, by show (i 0).val / 256 < 16; omega⟩ ⟨(i 0).val % 256, by omega⟩
    (⟨512 * c.val + (i 1).val, by omega⟩ : Fin 8192) (⟨(i 0).val, hi⟩ : Fin 4096) (by show (i 0).val = 256 * ((i 0).val / 256) + (i 0).val % 256; omega)
  have e5 := prodE_le_gmax m c ⟨(i 0).val / 256, by show (i 0).val / 256 < 16; omega⟩ ⟨(i 0).val % 256, by omega⟩ (⟨512 * c.val + (i 1).val, by omega⟩ : Fin 8192)
  rw [gmax_whole h c] at e5
  rw [e4] at e5 ⊢
  exact quant_eq _ _ (whole_nonneg _ _) e5

/-- Every device's result is its block of the reference's, both programs leaving their arguments as they were. -/
theorem value : Cert.algebraic_KernelIdeal_ReferenceIdeal := fun m g m' g' _ hm =>
  ⟨(ReferenceIdeal.Gen.dats m' 0 0).arrAt 2 ReferenceIdeal.cfg0.N,
    (θ_run KernelIdeal.defs _ _).mono (fun _ h c => ⟨(h c).1.trans (out_block (m := m) (m' := m') hm c), (h c).2⟩) (run_value (F := Ideal) m g),
    (θ_run ReferenceIdeal.defs _ _).mono (fun _ h => h 0) (ReferenceIdeal.Value.run_blocks (F := Ideal) m' g')⟩

end Cert.KernelProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.Same
public import proofs.«01_k».proof.Proof.Algebra
public import Idealize.ShloMosaic.Adequacy
public import Idealize.ShloMosaic.Init

@[expose] public section

noncomputable section

namespace Cert.Proof

open Idealize.ShloMosaic Idealize.SL.Sem Cert.KernelProof

theorem claim : Cert.Claim := ⟨Cert.Kernel.Gen.facts, Cert.KernelIdeal.Gen.facts, Cert.ReferenceIdeal.Gen.facts,
  frame_kernel, frame_kernel_ideal, fun m ρ _ => Cert.ReferenceIdeal.Gen.frame m ρ, trivial, value⟩

end Cert.Proof

end
